-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x16384 : Shape := ⟨3, ![8, 4096, 16384]⟩
abbrev S8x4096x128 : Shape := ⟨3, ![8, 4096, 128]⟩
abbrev S16384x13312 : Shape := ⟨2, ![16384, 13312]⟩
abbrev S128x104 : Shape := ⟨2, ![128, 104]⟩
abbrev S32768x8x16 : Shape := ⟨3, ![32768, 8, 16]⟩
abbrev S8x32768x16 : Shape := ⟨3, ![8, 32768, 16]⟩
abbrev S32768x16384 : Shape := ⟨2, ![32768, 16384]⟩
abbrev S32768x6656 : Shape := ⟨2, ![32768, 6656]⟩
abbrev S32768x52 : Shape := ⟨2, ![32768, 52]⟩
abbrev S1024x2048 : Shape := ⟨2, ![1024, 2048]⟩
abbrev S1x1024x16 : Shape := ⟨3, ![1, 1024, 16]⟩
abbrev S2048x512 : Shape := ⟨2, ![2048, 512]⟩
abbrev S1024x256 : Shape := ⟨2, ![1024, 256]⟩
abbrev S1024x52 : Shape := ⟨2, ![1024, 52]⟩
abbrev S1024x512 : Shape := ⟨2, ![1024, 512]⟩
abbrev S1024x128 : Shape := ⟨2, ![1024, 128]⟩
abbrev S1x1024x1 : Shape := ⟨3, ![1, 1024, 1]⟩
abbrev S1024x1 : Shape := ⟨2, ![1024, 1]⟩
abbrev S128x128 : Shape := ⟨2, ![128, 128]⟩
abbrev S1x1 : Shape := ⟨2, ![1, 1]⟩
abbrev S128x512 : Shape := ⟨2, ![128, 512]⟩
abbrev S1024 : Shape := ⟨1, ![1024]⟩

abbrev nBuf : Space → Nat
  | .hbm => 9
  | .vmem => 11
  | .smem => 1
  | _ => 0

abbrev bufTy : (tb : Table) → Fin (tcTables nBuf tb) → BufTy
  | .hbm, ⟨0, _⟩ => ⟨S8x4096x16384, .fp8e4m3⟩
  | .hbm, ⟨1, _⟩ => ⟨S8x4096x128, .f32⟩
  | .hbm, ⟨2, _⟩ => ⟨S16384x13312, .fp8e4m3⟩
  | .hbm, ⟨3, _⟩ => ⟨S128x104, .f32⟩
  | .hbm, ⟨4, _⟩ => ⟨S32768x8x16, .f32⟩
  | .hbm, ⟨5, _⟩ => ⟨S8x32768x16, .f32⟩
  | .hbm, ⟨6, _⟩ => ⟨S32768x16384, .fp8e4m3⟩
  | .hbm, ⟨7, _⟩ => ⟨S32768x6656, .fp8e4m3⟩
  | .hbm, ⟨8, _⟩ => ⟨S32768x52, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1x1024x16, .f32⟩
  | .local _ .vmem, ⟨3, _⟩ => ⟨S1x1024x16, .f32⟩
  | .local _ .vmem, ⟨4, _⟩ => ⟨S2048x512, .fp8e4m3⟩
  | .local _ .vmem, ⟨5, _⟩ => ⟨S2048x512, .fp8e4m3⟩
  | .local _ .vmem, ⟨6, _⟩ => ⟨S1024x256, .fp8e4m3⟩
  | .local _ .vmem, ⟨7, _⟩ => ⟨S1024x256, .fp8e4m3⟩
  | .local _ .vmem, ⟨8, _⟩ => ⟨S1024x52, .f32⟩
  | .local _ .vmem, ⟨9, _⟩ => ⟨S1024x52, .f32⟩
  | .local _ .vmem, ⟨10, _⟩ => ⟨S1024x512, .f32⟩
  | .local _ .smem, ⟨0, _⟩ => ⟨S128x104, .f32⟩
  | _, _ => ⟨S8x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 26, 8], ![false, false, false]⟩

def k0_off1 (i : grid0.Coords) (c0_i32_7 : BitVec 32) (c0_i32_8 : BitVec 32) : Fin 2 → Nat :=
  let arg2 : BitVec 32 := BitVec.ofNat 32 (i 2).val
  let c16_i32 : BitVec 32 := 16#32
  let v13 : BitVec 32 := Scalar.muli arg2 c16_i32
  let v14 : BitVec 32 := Scalar.addi v13 c0_i32_7
  let v17 : Index := Scalar.indexCast v14
  let arg1 : BitVec 32 := BitVec.ofNat 32 (i 1).val
  let c4_i32 : BitVec 32 := 4#32
  let v15 : BitVec 32 := Scalar.muli arg1 c4_i32
  let v16 : BitVec 32 := Scalar.addi v15 c0_i32_8
  let v18 : Index := Scalar.indexCast v16
  ![v17.toNat, v18.toNat]
def k0_cond2 (i : grid0.Coords) : BitVec 1 :=
  let arg2 : BitVec 32 := BitVec.ofNat 32 (i 2).val
  let c7_i32_437 : BitVec 32 := 7#32
  let v951 : BitVec 1 := Scalar.cmpi .eq arg2 c7_i32_437
  let v952 : BitVec 32 := Scalar.extui v951
  let c0_i32_438 : BitVec 32 := 0#32
  let v953 : BitVec 1 := Scalar.cmpi .ne v952 c0_i32_438
  v953

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .smem S128x104 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x52 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceIdeal.lean ====
abbrev S8x4096x16384 : Shape := ⟨3, ![8, 4096, 16384]⟩
abbrev S8x4096x128 : Shape := ⟨3, ![8, 4096, 128]⟩
abbrev S16384x13312 : Shape := ⟨2, ![16384, 13312]⟩
abbrev S128x104 : Shape := ⟨2, ![128, 104]⟩
abbrev S32768x6656 : Shape := ⟨2, ![32768, 6656]⟩
abbrev S32768x52 : Shape := ⟨2, ![32768, 52]⟩
abbrev S32768x128x128 : Shape := ⟨3, ![32768, 128, 128]⟩
abbrev S32768x128x1 : Shape := ⟨3, ![32768, 128, 1]⟩
abbrev S32768x16384 : Shape := ⟨2, ![32768, 16384]⟩
abbrev S128x128x104x128 : Shape := ⟨4, ![128, 128, 104, 128]⟩
abbrev S128x1x104x1 : Shape := ⟨4, ![128, 1, 104, 1]⟩
abbrev S32768x13312 : Shape := ⟨2, ![32768, 13312]⟩
abbrev S32768x52x2x128 : Shape := ⟨4, ![32768, 52, 2, 128]⟩
abbrev S32768x52x1x128 : Shape := ⟨4, ![32768, 52, 1, 128]⟩
abbrev S32768x52x128 : Shape := ⟨3, ![32768, 52, 128]⟩
abbrev S32768x52x1 : Shape := ⟨3, ![32768, 52, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x16384, .fp8e4m3⟩
  | .hbm, ⟨1, _⟩ => ⟨S8x4096x128, .f32⟩
  | .hbm, ⟨2, _⟩ => ⟨S16384x13312, .fp8e4m3⟩
  | .hbm, ⟨3, _⟩ => ⟨S128x104, .f32⟩
  | .hbm, ⟨4, _⟩ => ⟨S32768x6656, .fp8e4m3⟩
  | .hbm, ⟨5, _⟩ => ⟨S32768x52, .f32⟩
  | .local _ .vmem, ⟨0, _⟩ => ⟨S8x4096x16384, .fp8e4m3⟩
  | .local _ .vmem, ⟨1, _⟩ => ⟨S8x4096x128, .f32⟩
  | .local _ .vmem, ⟨2, _⟩ => ⟨S16384x13312, .fp8e4m3⟩
  | .local _ .vmem, ⟨3, _⟩ => ⟨S128x104, .f32⟩
  | .local _ .vmem, ⟨4, _⟩ => ⟨S32768x6656, .fp8e4m3⟩
  | .local _ .vmem, ⟨5, _⟩ => ⟨S32768x52, .f32⟩
  | _, _ => ⟨S8x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x13312 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x104 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x6656 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x52 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KI.Runs.lean ====
/- What the runs of the idealized kernel's body share: the branch conditions over the points, the staging memrefs, the carried scratch. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 0 rfl).trans ((hA c 0).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 6656 := Nat.lt_of_lt_of_eq t.isLt N_0
    have e0 : (grid0.coords t 0).val = t.val / 208 % 32 := Pipeline.Grid.coords_val t 0 (by decide) rfl
    have e1 : (grid0.coords t 1).val = t.val / 8 % 26 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 6656 := Nat.lt_of_lt_of_eq t.isLt N_0
    have e0 : (grid0.coords t 0).val = t.val / 208 % 32 := Pipeline.Grid.coords_val t 0 (by decide) rfl
    have e1 : (grid0.coords t 1).val = t.val / 8 % 26 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S128x104 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x52 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x512 .f32 := Memref.whole cc0_scratch0
/-- The scratch `arg9` the kernel carries between points, as a view: what it holds is stated through it. -/
abbrev VS0_0 : View sig .tc .vmem S1024x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Own

end
-- ==== Proof.KI.RunA.lean ====
/- The run of the idealized kernel's body in case A: the pieces that it stores in the carried scratch, found by the run. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2456000 in
/-- What the body's stores leave in each output's staging memref, as pieces (last first) IN CASE A (`scf.if` 0 taken, `scf.if` 1 not taken: points 0, 8, … 6648: 832 of 6656), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_A (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : cond0_0 i) (hc1 : ¬cond0_1 i)
    (x0 : Vec F S128x104 .f32) (x1 : Vec F S1024x2048 .fp8e4m3) (x2 : Vec F S1x1024x16 .f32) (x3 : Vec F S2048x512 .fp8e4m3) :
    { LS0 : List (View.Piece (Elt F) S1024x512 .f32) //
      ∀ (x5 : Vec F S1024x52 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare x5 ∗ (∃ f, arg9.view.loc (c : Thread nD τ) ↦[arg9.view.set]{fullShare} arg9.view.writes (Elt F) f LS0)) -∗ K ⟨⟩))
          ⊢ wp frame (wpE (defs₀ (F := F)) Variants.none c none) E (cc0_gate_up_swiglu i arg3 harg3 arg4 harg4 arg5 harg5 arg6 harg6 arg7 harg7 arg8 harg8 arg9 harg9) K } := by
  refine ⟨?_, fun x5 E K => ?run⟩
  case run =>
    simp only [cc0_gate_up_swiglu_eq_skeleton]; unfold cc0_gate_up_swiglu_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [H5]
    · iexists _; isplitr; · ipureintro; exact harg8.read_unread _
      iexact H5
    iexists _; iexact HS0

end Cert.KernelIdeal.Own

end
-- ==== Proof.KI.RunB.lean ====
/- The run of the idealized kernel's body in case B: the pieces that it stores in the carried scratch, found by the run. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2444000 in
/-- What the body's stores leave in each output's staging memref, as pieces (last first) IN CASE B (`scf.if` 0 not taken, `scf.if` 1 not taken: points 1, 2, … 6654: 4992 of 6656), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_B (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : ¬cond0_1 i)
    (x0 : Vec F S128x104 .f32) (x1 : Vec F S1024x2048 .fp8e4m3) (x2 : Vec F S1x1024x16 .f32) (x3 : Vec F S2048x512 .fp8e4m3) (xs0 : Vec F S1024x512 .f32) :
    { LS0 : List (View.Piece (Elt F) S1024x512 .f32) //
      ∀ (x5 : Vec F S1024x52 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare x5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare x5 ∗ (∃ f, arg9.view.loc (c : Thread nD τ) ↦[arg9.view.set]{fullShare} arg9.view.writes (Elt F) f LS0)) -∗ K ⟨⟩))
          ⊢ wp frame (wpE (defs₀ (F := F)) Variants.none c none) E (cc0_gate_up_swiglu i arg3 harg3 arg4 harg4 arg5 harg5 arg6 harg6 arg7 harg7 arg8 harg8 arg9 harg9) K } := by
  refine ⟨?_, fun x5 E K => ?run⟩
  case run =>
    simp only [cc0_gate_up_swiglu_eq_skeleton]; unfold cc0_gate_up_swiglu_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [H5]
    · iexists _; isplitr; · ipureintro; exact harg8.read_unread _
      iexact H5
    iexists _; iexact HS0

end Cert.KernelIdeal.Own

end
-- ==== Proof.KI.RunC.lean ====
/- The run of the idealized kernel's body in case C: the pieces that it stores in the two outputs and in the carried scratch, found by the run. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2552000 in
/-- What the body's stores leave in the two outputs and in the carried scratch, as pieces (last first), in case C (points 7, 15, …, 6655),
    with the proof that on whole staging memrefs — the inputs' at their contents, the first output's at anything, the second's at
    `x5`, the scratch at `xs0` — the body runs to the continuation holding the inputs' as they were and the others with their
    pieces written. -/
noncomputable def kernelRun0_C (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) :
    Σ' (L4 : List (View.Piece (Elt F) S1024x256 .fp8e4m3)), Σ' (L5 : Vec F S1024x52 .f32 → List (View.Piece (Elt F) S1024x52 .f32)), { LS0 : List (View.Piece (Elt F) S1024x512 .f32) //
      ∀ (x5 : Vec F S1024x52 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare x5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f (L5 x5)) ∗ (∃ f, arg9.view.loc (c : Thread nD τ) ↦[arg9.view.set]{fullShare} arg9.view.writes (Elt F) f LS0)) -∗ K ⟨⟩))
          ⊢ wp frame (wpE (defs₀ (F := F)) Variants.none c none) E (cc0_gate_up_swiglu i arg3 harg3 arg4 harg4 arg5 harg5 arg6 harg6 arg7 harg7 arg8 harg8 arg9 harg9) K } := by
  refine ⟨?_, ?_, ?_, fun x5 E K => ?run⟩
  case run =>
    simp only [cc0_gate_up_swiglu_eq_skeleton]; unfold cc0_gate_up_swiglu_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact HS0

end Cert.KernelIdeal.Own

end
-- ==== Proof.KI.Frame.lean ====
module

public import proofs.«01_k».proof.Proof.KI.RunA
public import proofs.«01_k».proof.Proof.KI.RunB
public import proofs.«01_k».proof.Proof.KI.RunC
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 2 pieces of `S1024x512` tiling it (Lib/Ring.lean `Piece.tiledL`). -/
theorem scover0_A_0 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : cond0_0 i) (hc1 : ¬cond0_1 i)
    (x0 : Vec F S128x104 .f32) (x1 : Vec F S1024x2048 .fp8e4m3) (x2 : Vec F S1x1024x16 .f32) (x3 : Vec F S2048x512 .fp8e4m3) (y : S1024x512.Idx) :
    ∃ pc ∈ (kernelRun0_A c i arg3 harg3 arg4 harg4 arg5 harg5 arg6 harg6 arg7 harg7 arg8 harg8 arg9 harg9 hc0 hc1 x0 x1 x2 x3).1, y ∈ pc.1.set :=
  View.cover_of_tiledL (kernelRun0_A c i arg3 harg3 arg4 harg4 arg5 harg5 arg6 harg6 arg7 harg7 arg8 harg8 arg9 harg9 hc0 hc1 x0 x1 x2 x3).1 S1024x512.size (by sl_kernel_rfl) y

/-- What case A leaves in scratch `arg9`: its pieces read back over junk. -/
def sout0_A_0 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : cond0_0 i) (hc1 : ¬cond0_1 i)
    (x0 : Vec F S128x104 .f32) (x1 : Vec F S1024x2048 .fp8e4m3) (x2 : Vec F S1x1024x16 .f32) (x3 : Vec F S2048x512 .fp8e4m3) : Vec F S1024x512 .f32 :=
  View.canon (kernelRun0_A c i arg3 harg3 arg4 harg4 arg5 harg5 arg6 harg6 arg7 harg7 arg8 harg8 arg9 harg9 hc0 hc1 x0 x1 x2 x3).1

/-- Case B's pieces for scratch `arg9`, which the kernel carries between points, cover it: 1 piece of `S1024x512` tiling it (Lib/Ring.lean `Piece.tiledL`). -/
theorem scover0_B_0 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : ¬cond0_1 i)
    (x0 : Vec F S128x104 .f32) (x1 : Vec F S1024x2048 .fp8e4m3) (x2 : Vec F S1x1024x16 .f32) (x3 : Vec F S2048x512 .fp8e4m3) (xs0 : Vec F S1024x512 .f32) (y : S1024x512.Idx) :
    ∃ pc ∈ (kernelRun0_B c i arg3 harg3 arg4 harg4 arg5 harg5 arg6 harg6 arg7 harg7 arg8 harg8 arg9 harg9 hc0 hc1 x0 x1 x2 x3 xs0).1, y ∈ pc.1.set :=
  View.cover_of_tiledL (kernelRun0_B c i arg3 harg3 arg4 harg4 arg5 harg5 arg6 harg6 arg7 harg7 arg8 harg8 arg9 harg9 hc0 hc1 x0 x1 x2 x3 xs0).1 S1024x512.size (by sl_kernel_rfl) y

/-- What case B leaves in scratch `arg9`: its pieces read back over junk. -/
def sout0_B_0 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : ¬cond0_1 i)
    (x0 : Vec F S128x104 .f32) (x1 : Vec F S1024x2048 .fp8e4m3) (x2 : Vec F S1x1024x16 .f32) (x3 : Vec F S2048x512 .fp8e4m3) (xs0 : Vec F S1024x512 .f32) : Vec F S1024x512 .f32 :=
  View.canon (kernelRun0_B c i arg3 harg3 arg4 harg4 arg5 harg5 arg6 harg6 arg7 harg7 arg8 harg8 arg9 harg9 hc0 hc1 x0 x1 x2 x3 xs0).1

/-- Case C's pieces for scratch `arg9`, which the kernel carries between points, cover it: 1 piece of `S1024x512` tiling it (Lib/Ring.lean `Piece.tiledL`). -/
theorem scover0_C_0 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) (y : S1024x512.Idx) :
    ∃ pc ∈ (kernelRun0_C c i arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg3 harg3 arg4 harg4 arg5 harg5 arg6 harg6 arg7 harg7 arg8 harg8 arg9 harg9 hc0 hc1 x0 x1 x2 x3 xs0).2.2.1 S1024x512.size (by sl_kernel_rfl) y

/-- What case C leaves in scratch `arg9`: its pieces read back over junk. -/
def sout0_C_0 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) : Vec F S1024x512 .f32 :=
  View.canon (kernelRun0_C c i arg3 harg3 arg4 harg4 arg5 harg5 arg6 harg6 arg7 harg7 arg8 harg8 arg9 harg9 hc0 hc1 x0 x1 x2 x3 xs0).2.2.1

/-- What case C stores in the codes' block covers it. -/
theorem ocover4 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) (y : S1024x256.Idx) :
    ∃ pc ∈ (kernelRun0_C c i arg3 harg3 arg4 harg4 arg5 harg5 arg6 harg6 arg7 harg7 arg8 harg8 arg9 harg9 hc0 hc1 x0 x1 x2 x3 xs0).1, y ∈ pc.1.set :=
  View.cover_of_tiledL (kernelRun0_C c i arg3 harg3 arg4 harg4 arg5 harg5 arg6 harg6 arg7 harg7 arg8 harg8 arg9 harg9 hc0 hc1 x0 x1 x2 x3 xs0).1 ![1024, 128] (by sl_kernel_rfl) y

/-- What case C leaves in the codes' block. -/
def out4 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) : Vec F S1024x256 .fp8e4m3 :=
  View.canon (kernelRun0_C c i arg3 harg3 arg4 harg4 arg5 harg5 arg6 harg6 arg7 harg7 arg8 harg8 arg9 harg9 hc0 hc1 x0 x1 x2 x3 xs0).1

/-- What case C stores in the scales' block covers it. -/
theorem ocover5 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) (x5 : Vec F S1024x52 .f32) (y : S1024x52.Idx) :
    ∃ pc ∈ (kernelRun0_C c i arg3 harg3 arg4 harg4 arg5 harg5 arg6 harg6 arg7 harg7 arg8 harg8 arg9 harg9 hc0 hc1 x0 x1 x2 x3 xs0).2.1 x5, y ∈ pc.1.set :=
  View.cover_of_tiledL ((kernelRun0_C c i arg3 harg3 arg4 harg4 arg5 harg5 arg6 harg6 arg7 harg7 arg8 harg8 arg9 harg9 hc0 hc1 x0 x1 x2 x3 xs0).2.1 x5) S1024x52.size (by sl_kernel_rfl) y

/-- What case C leaves in the scales' block, over what it found there. -/
def out5 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole) (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i)
    (x0 : Vec F S128x104 .f32) (x1 : Vec F S1024x2048 .fp8e4m3) (x2 : Vec F S1x1024x16 .f32) (x3 : Vec F S2048x512 .fp8e4m3) (xs0 : Vec F S1024x512 .f32) (x5 : Vec F S1024x52 .f32) : Vec F S1024x52 .f32 :=
  View.canon ((kernelRun0_C c i arg3 harg3 arg4 harg4 arg5 harg5 arg6 harg6 arg7 harg7 arg8 harg8 arg9 harg9 hc0 hc1 x0 x1 x2 x3 xs0).2.1 x5)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = 7 then
        False.elim (by have hN : n + 1 < 6656 := lt_of_lt_of_eq hn (show cfg0.N = 6656 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- What is asked of the two outputs' blocks after each point: a predicate of each, by position. -/
structure Held (F : FTy → Type) where
  r4 : ℕ → Vec F S1024x256 .fp8e4m3 → Prop
  r5 : ℕ → Vec F S1024x52 .f32 → Prop

variable (H : Dev nD → Held F)

/-- The predicates hold through the run: a point that stores nothing keeps them, and a point that stores meets them
    over any scales' block the point before may have left. -/
structure Kept : Prop where
  idle4 : ∀ c (t : Fin cfg0.N), ¬t.val % 8 = 7 → ∀ X, (H c).r4 t.val X
  idle5 : ∀ c (t : Fin cfg0.N), ¬t.val % 8 = 7 → ∀ X, (t.val % 208 ≠ 0 → (H c).r5 (t.val - 1) X) → (H c).r5 t.val X
  store4 : ∀ c (t : Fin cfg0.N) (h0 : ¬t.val % 8 = 0) (h1 : t.val % 8 = 7), (H c).r4 t.val
    (out4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
  store5 : ∀ c (t : Fin cfg0.N) (h0 : ¬t.val % 8 = 0) (h1 : t.val % 8 = 7) (x5 : Vec F S1024x52 .f32), (H c).r5 (t.val - 1) x5 → (H c).r5 t.val
    (out5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) x5)

/-- The predicates, window by window. -/
def Rl (c : Dev nD) (w : Fin cfg0.W) (t : Fin cfg0.N) (X : (cfg0.win w).block.Idx → Elt F (cfg0.win w).elt) : Prop :=
  match w, X with
  | ⟨4, _⟩, X => (H c).r4 t.val X
  | ⟨5, _⟩, X => (H c).r5 t.val X
  | _, _ => True

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, ⌜((dats m 0 c).toRRel forgets0 (Rl H c)).Finds 4 t d⌝ ∗ owns (c : Thread nD τ) (ms0_4 t) fullShare d)
    ∗ (∃ d, ⌜((dats m 0 c).toRRel forgets0 (Rl H c)).Finds 5 t d⌝ ∗ owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, ⌜Rl H c 4 t d⌝ ∗ owns (c : Thread nD τ) (ms0_4 t) fullShare d)
    ∗ (∃ d, ⌜Rl H c 5 t d⌝ ∗ owns (c : Thread nD τ) (ms0_5 t) fullShare d))

/-- What the body may find in the scales' block at a point that starts no block of rows meets the predicate of the
    point before. -/
theorem finds5 (c : Dev nD) (t : Fin cfg0.N) (h : t.val % 208 ≠ 0) (X)
    (hX : ((dats m 0 c).toRRel forgets0 (Rl H c)).Finds 5 t X) : (H c).r5 (t.val - 1) X := by
  rcases (Pipeline.RDat.finds_of_pos _ (w := 5) rfl (fun q => h (by rw [q])) X).mp hX with q | q
  · have := (flush0_5 _).mp q
    simp only [] at this; omega
  · exact (dats m 0 c).toRRel_leaves (w := 5) rfl q

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hK : Kept m H) (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 6656 := lt_of_lt_of_eq t.isLt (show cfg0.N = 6656 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · rw [PhiS_castSucc m c t, PhiS_zero m c _ _ hz, PhiA0_eq]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, %hd4, H4⟩, ⟨%d5, %hd5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2 d5 Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_eq_canon _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · icases H4 with ⟨%e4, H4⟩
          iexists e4; isplitr; · ipureintro; exact hK.idle4 c t h1 e4
          iexact H4
        iexists d5; isplitr; · ipureintro; exact hK.idle5 c t h1 d5 fun q => finds5 m H c t q d5 hd5
        iexact H5
      · rw [PhiS_castSucc m c t, PhiS_pos m c _ _ hz]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, %hd4, H4⟩, ⟨%d5, %hd5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2 d5 Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_eq_canon _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · icases H4 with ⟨%e4, H4⟩
          iexists e4; isplitr; · ipureintro; exact hK.idle4 c t h1 e4
          iexact H4
        iexists d5; isplitr; · ipureintro; exact hK.idle5 c t h1 d5 fun q => finds5 m H c t q d5 hd5
        iexact H5
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 6656 := lt_of_lt_of_eq t.isLt (show cfg0.N = 6656 from N_0); omega
      · rw [PhiS_castSucc m c t, PhiS_pos m c _ _ hz]
        rw [outsAt0_C m c t h0 h1]
        unfold sout0_C_0
        iintro ⟨⟨HS0, Hg⟩, Ho, ⟨%d0, H0⟩, ⟨%d1, H1⟩, ⟨%d2, H2⟩, ⟨%d3, H3⟩, ⟨%d4, %hd4, H4⟩, ⟨%d5, %hd5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _).2.2.2 d5 Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%es4, H4⟩, ⟨%es5, H5⟩, ⟨%es0, HS0⟩⟩
        isplitl [HS0 Hg]
        · isplitl [HS0]
          · unfold owns; iexists _; isplitr
            swap; · iexact HS0
            ipureintro; exact View.read_writes_eq_canon _ _ _ (scover0_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · iexists _; isplitr
          swap
          · unfold owns; iexists _; isplitr
            swap; · iexact H4
            ipureintro; exact View.read_writes_eq_canon _ _ _ (ocover4 c _ _ _ _ _ _ _ _ _ _ _ _ _ _ _ _ _ _ _ _ _ _)
          ipureintro; exact hK.store4 c t h0 h1
        iexists _; isplitr
        swap
        · unfold owns; iexists _; isplitr
          swap; · iexact H5
          ipureintro; exact View.read_writes_eq_canon _ _ _ (ocover5 c _ _ _ _ _ _ _ _ _ _ _ _ _ _ _ _ _ _ _ _ _ _ d5)
        ipureintro; exact hK.store5 c t h0 h1 d5 (finds5 m H c t (by omega) d5 hd5)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 6656 := lt_of_lt_of_eq t.isLt (show cfg0.N = 6656 from N_0); omega
      · rw [PhiS_castSucc m c t, PhiS_pos m c _ _ hz]
        rw [outsAt0_B m c t h0 h1]
        unfold sout0_B_0
        iintro ⟨⟨HS0, Hg⟩, Ho, ⟨%d0, H0⟩, ⟨%d1, H1⟩, ⟨%d2, H2⟩, ⟨%d3, H3⟩, ⟨%d4, %hd4, H4⟩, ⟨%d5, %hd5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _).2 d5 Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_eq_canon _ _ _ (scover0_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · icases H4 with ⟨%e4, H4⟩
          iexists e4; isplitr; · ipureintro; exact hK.idle4 c t h1 e4
          iexact H4
        iexists d5; isplitr; · ipureintro; exact hK.idle5 c t h1 d5 fun q => finds5 m H c t q d5 hd5
        iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hK : Kept m H) (c : Dev nD) :
    Pipeline.BodyObligationRel (dats (F := F) m 0 c) (defs₀ (F := F)) Variants.none () Set.univ forgets0 (Rl H c) := fun t => by
  rw [bigSep_W0, bigSep_W0, defs₀_row]
  exact triple_restated (sound_body m H hK c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 6656 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hK : Kept m H) : θ_run defs (onTc (τ := τ) (main (F := F))) (s₀ m ρ) (fun r => (Pipeline.RDat.FramePost (cfgs 0) (fun c => (dats m 0 c).toRRel forgets0 (Rl H c)) (V m)) r ∧ r.2.sem = fun _ => 0) :=
  Pipeline.RDat.θ_run_frame_track cfgs (0 : Fin 1) launch0 defs₀ Variants.none (fun c => (dats m 0 c).toRRel forgets0 (Rl H c)) m ρ main
    (hbody := fun c => (body_obligation m H hK c).toRRel) (hshare := fun c => (dats m 0 c).share_full fun _ => rfl)
    (howed := fun _ _ => rfl) (V := V m) (hmain := hmain m Variants.none) (hA := A_eq m) (hin := hin m) (hout := hout m) (Q' := _)

end Cert.KernelIdeal.Own

end
-- ==== Proof.KI.Bare.lean ====
/- The frame of the kernel's text at any float instance: the run of `KI/Frame.lean` with nothing asked of the outputs. -/
module

public import proofs.«01_k».proof.Proof.KI.Frame

@[expose] public section

set_option maxRecDepth 16384

noncomputable section

namespace Cert.KernelIdeal.Own

open Cert.KernelIdeal Cert.KernelIdeal.Gen

open Idealize.ShloMosaic Idealize.ShloMosaic.TcCoe Idealize.SL.Sem

variable {F : FTy → Type} [FloatOps F]

variable (m : (ℓ : Loc nD τ sig) → Buf (Elt F) ℓ) (ρ : Dev nD → PrngReg)

/-- Nothing is asked of the outputs' blocks. -/
def free (_ : Dev nD) : Held F := ⟨fun _ _ => True, fun _ _ => True⟩

theorem free_kept : Kept m free where
  idle4 _ _ _ _ := trivial
  idle5 _ _ _ _ _ := trivial
  store4 _ _ _ _ := trivial
  store5 _ _ _ _ _ _ := trivial

/-- The program terminates without fault, leaves its arguments as launched, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := run_main_quiescent m ρ free (free_kept m)
  exact θ_run_and (frame_of m ρ _ (A_eq m) ((θ_run defs _ _).mono (fun _ h => h.1) h)) ((θ_run defs _ _).mono (fun _ h => h.2) h)

end Cert.KernelIdeal.Own

end
-- ==== Proof.K.Same.lean ====
/- The kernel and its idealization are one text: the frame of the one is the frame of the other. -/
module

public import proofs.«01_k».proof.Proof.KI.Bare
public import proofs.«01_k».proof.Proof.Gen.Kernel

@[expose] public section

set_option maxRecDepth 16384

noncomputable section

namespace Cert.Kernel.Own

open Idealize.ShloMosaic Idealize.ShloMosaic.TcCoe Idealize.SL.Sem

variable {F : FTy → Type} [FloatOps F]

open Cert.Kernel

variable (m : (ℓ : Loc nD τ sig) → Buf (Elt F) ℓ) (ρ : Dev nD → PrngReg)

/-- The two printed programs are the same term. -/
theorem main_eq : Cert.Kernel.main (F := F) = Cert.KernelIdeal.main (F := F) := rfl

/-- The two kernel bodies are the same term. -/
theorem cc0_eq : Cert.Kernel.cc0_gate_up_swiglu (F := F) = Cert.KernelIdeal.cc0_gate_up_swiglu (F := F) := rfl

/-- So are the two body tables, -/
theorem defs0_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- and the tables with the region and the pipeline. -/
theorem defs_eq : Cert.Kernel.defs (F := F) = Cert.KernelIdeal.defs (F := F) := by
  unfold Cert.Kernel.defs Cert.KernelIdeal.defs
  rw [defs0_eq]
  rfl

/-- The kernel terminates without fault, leaves its arguments as launched, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Own.frame (F := F) m ρ

end Cert.Kernel.Own

end
-- ==== Proof.KI.Group.lean ====
/- The sixteen 128-wide groups of the contraction that one point of the grid adds to the accumulator,
   named by the group's number, and the pieces of the three runs in these terms. -/
module

public import proofs.«01_k».proof.Proof.KI.Frame

@[expose] public section

-- rectangles of production extents: the elaborator's structural look recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem inbX (g : Fin 16) : ∀ a, (![0, 128 * g.val] : Fin 2 → ℕ) a + S1024x128.size a ≤ S1024x2048.size a := by
  revert g; decide

theorem inbS (g : Fin 16) : ∀ a, (![0, 0, g.val] : Fin 3 → ℕ) a + S1x1024x1.size a ≤ S1x1024x16.size a := by
  revert g; decide

theorem inbW (g : Fin 16) (b : Fin 4) :
    ∀ a, (![128 * g.val, 128 * b.val] : Fin 2 → ℕ) a + S128x128.size a ≤ S2048x512.size a := by
  revert g b; decide

/-- The activations of group `g` of the point, times their scale. -/
def xg (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (x0 : Vec F S128x104 .f32) (x1 : Vec F S1024x2048 .fp8e4m3) (x2 : Vec F S1x1024x16 .f32) (x3 : Vec F S2048x512 .fp8e4m3) (g : Fin 16) : FVec F S1024x128 .bf16 :=
  k0_pay23 (View.readAt (Elt F) arg4.view (Rect.unit (s := S1024x2048) ![0, 128 * g.val] S1024x128.size (inbX g)).toLoadRect (harg4.unread x1))
    (View.readAt (Elt F) arg5.view (Rect.unit (s := S1x1024x16) ![0, 0, g.val] S1x1024x1.size (inbS g)).toLoadRect (harg5.unread x2))

/-- The weights of group `g` of the point in its `b`-th 128-wide column block, times their scale. -/
def wg (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (x0 : Vec F S128x104 .f32) (x1 : Vec F S1024x2048 .fp8e4m3) (x2 : Vec F S1x1024x16 .f32) (x3 : Vec F S2048x512 .fp8e4m3) (g : Fin 16) (b : Fin 4) : FVec F S128x128 .bf16 :=
  k0_pay24 (View.readAt (Elt F) arg6.view (Rect.unit (s := S2048x512) ![128 * g.val, 128 * b.val] S128x128.size (inbW g b)).toLoadRect (harg6.unread x3))
    (View.readAt (Elt F) arg3.view (Rect.unit (s := S128x104) (k0_off1 i (BitVec.ofNat 32 g.val) (BitVec.ofNat 32 b.val)) S1x1.size (k0_off1_inb i g b)).toLoadRect (harg3.unread x0) (Shape.Idx.first (show 0 < S1x1.numel by decide)))

/-- The product of group `g`. -/
def grp (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (x0 : Vec F S128x104 .f32) (x1 : Vec F S1024x2048 .fp8e4m3) (x2 : Vec F S1x1024x16 .f32) (x3 : Vec F S2048x512 .fp8e4m3) (g : Fin 16) : FVec F S1024x512 .f32 :=
  matmul dot_S1024x128_S128x512_S1024x512_1_0_0_1_n_n none (xg arg3 harg3 arg4 harg4 arg5 harg5 arg6 harg6 x0 x1 x2 x3 g)
    (concatenate S128x512 1 [⟨S128x128, wg i arg3 harg3 arg4 harg4 arg5 harg5 arg6 harg6 x0 x1 x2 x3 g 0⟩, ⟨S128x128, wg i arg3 harg3 arg4 harg4 arg5 harg5 arg6 harg6 x0 x1 x2 x3 g 1⟩, ⟨S128x128, wg i arg3 harg3 arg4 harg4 arg5 harg5 arg6 harg6 x0 x1 x2 x3 g 2⟩, ⟨S128x128, wg i arg3 harg3 arg4 harg4 arg5 harg5 arg6 harg6 x0 x1 x2 x3 g 3⟩] concatenates_S128x128_S128x128_S128x128_S128x128_S128x512_d1)
    (constant S1024x512 .f32 0x00000000#32)

/-- What one point adds to the accumulator. -/
def part (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (x0 : Vec F S128x104 .f32) (x1 : Vec F S1024x2048 .fp8e4m3) (x2 : Vec F S1x1024x16 .f32) (x3 : Vec F S2048x512 .fp8e4m3) : FVec F S1024x512 .f32 :=
  addf (addf (addf (addf (addf (addf (addf (addf (addf (addf (addf (addf (addf (addf (addf (grp i arg3 harg3 arg4 harg4 arg5 harg5 arg6 harg6 x0 x1 x2 x3 0) (grp i arg3 harg3 arg4 harg4 arg5 harg5 arg6 harg6 x0 x1 x2 x3 1)) (grp i arg3 harg3 arg4 harg4 arg5 harg5 arg6 harg6 x0 x1 x2 x3 2)) (grp i arg3 harg3 arg4 harg4 arg5 harg5 arg6 harg6 x0 x1 x2 x3 3)) (grp i arg3 harg3 arg4 harg4 arg5 harg5 arg6 harg6 x0 x1 x2 x3 4)) (grp i arg3 harg3 arg4 harg4 arg5 harg5 arg6 harg6 x0 x1 x2 x3 5)) (grp i arg3 harg3 arg4 harg4 arg5 harg5 arg6 harg6 x0 x1 x2 x3 6)) (grp i arg3 harg3 arg4 harg4 arg5 harg5 arg6 harg6 x0 x1 x2 x3 7)) (grp i arg3 harg3 arg4 harg4 arg5 harg5 arg6 harg6 x0 x1 x2 x3 8)) (grp i arg3 harg3 arg4 harg4 arg5 harg5 arg6 harg6 x0 x1 x2 x3 9)) (grp i arg3 harg3 arg4 harg4 arg5 harg5 arg6 harg6 x0 x1 x2 x3 10)) (grp i arg3 harg3 arg4 harg4 arg5 harg5 arg6 harg6 x0 x1 x2 x3 11)) (grp i arg3 harg3 arg4 harg4 arg5 harg5 arg6 harg6 x0 x1 x2 x3 12)) (grp i arg3 harg3 arg4 harg4 arg5 harg5 arg6 harg6 x0 x1 x2 x3 13)) (grp i arg3 harg3 arg4 harg4 arg5 harg5 arg6 harg6 x0 x1 x2 x3 14)) (grp i arg3 harg3 arg4 harg4 arg5 harg5 arg6 harg6 x0 x1 x2 x3 15)

/-- The accumulator as the point loads it. -/
def ldAcc (arg9 : Memref sig .tc .vmem S1024x512 .f32) (harg9 : arg9.IsWhole) (xs0 : Vec F S1024x512 .f32) : Vec F S1024x512 .f32 :=
  View.readAt (Elt F) arg9.view (Rect.unit (s := S1024x512) ![0, 0] S1024x512.size inb_S1024x512_S1024x512_0_0).toLoadRect (harg9.unread xs0)

set_option maxHeartbeats 4000000 in
theorem pieces_B (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : ¬cond0_1 i) (x0 : Vec F S128x104 .f32) (x1 : Vec F S1024x2048 .fp8e4m3) (x2 : Vec F S1x1024x16 .f32) (x3 : Vec F S2048x512 .fp8e4m3) (xs0 : Vec F S1024x512 .f32) :
    (kernelRun0_B c i arg3 harg3 arg4 harg4 arg5 harg5 arg6 harg6 arg7 harg7 arg8 harg8 arg9 harg9 hc0 hc1 x0 x1 x2 x3 xs0).1
      = [⟨Rect.unit (s := S1024x512) ![0, 0] S1024x512.size inb_S1024x512_S1024x512_0_0,
          k0_pay1 (addf (ldAcc arg9 harg9 xs0) (part i arg3 harg3 arg4 harg4 arg5 harg5 arg6 harg6 x0 x1 x2 x3))⟩] := rfl

/-- The zeros that the first point of a run of the accumulator stores. -/
def zeroPiece : View.Piece (Elt F) S1024x512 .f32 :=
  ⟨Rect.unit (s := S1024x512) ![0, 0] S1024x512.size inb_S1024x512_S1024x512_0_0, k0_pay22⟩

set_option maxHeartbeats 4000000 in
theorem pieces_A (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : cond0_0 i) (hc1 : ¬cond0_1 i) (x0 : Vec F S128x104 .f32) (x1 : Vec F S1024x2048 .fp8e4m3) (x2 : Vec F S1x1024x16 .f32) (x3 : Vec F S2048x512 .fp8e4m3) :
    (kernelRun0_A c i arg3 harg3 arg4 harg4 arg5 harg5 arg6 harg6 arg7 harg7 arg8 harg8 arg9 harg9 hc0 hc1 x0 x1 x2 x3).1
      = [⟨Rect.unit (s := S1024x512) ![0, 0] S1024x512.size inb_S1024x512_S1024x512_0_0,
          k0_pay1 (addf (arg9.view.readCov [zeroPiece] (Rect.unit (s := S1024x512) ![0, 0] S1024x512.size inb_S1024x512_S1024x512_0_0).toLoadRect) (part i arg3 harg3 arg4 harg4 arg5 harg5 arg6 harg6 x0 x1 x2 x3))⟩, zeroPiece] := rfl

/-- The power of two's biased exponent that the kernel finds for each row of a tile of gate columns `g` and
    up columns `u`. -/
def bvec (g u : Vec F S1024x128 .f32) : IVec S1024x1 32 :=
  k0_pay12 (k0_pay9 (k0_pay5 g u) (k0_pay6 g u) (k0_pay7 g u) k0_pay8)
    (k0_pay10 (k0_pay5 g u) (k0_pay6 g u) (k0_pay7 g u) k0_pay8) k0_pay11

/-- The codes of that tile. -/
def codesv (g u : Vec F S1024x128 .f32) : FVec F S1024x128 .fp8e4m3 := k0_pay2 (k0_pay4 g u) (bvec g u)

/-- The block of scales with the tile's scales put in its lane `2 n + j`. -/
def scalev (n : BitVec 32) (j : BitVec 32) (g u : Vec F S1024x128 .f32) (old : Vec F S1024x52 .f32) : FVec F S1024x52 .f32 :=
  select (cmpi .eq (iota Kind.tc S1024x52 32 [1] iota_S1024x52_d1_w32) (broadcast S1024x52 (Scalar.addi (Scalar.muli n 2#32) j)))
    (broadcastTo S1024x52 (shapeCast S1024x1 (bitcastToFloat (F := F) .f32 (shli (addi (bvec g u) (broadcast S1024x1 1#32)) (broadcast S1024x1 23#32))) shapeCasts_S1024x1_S1024x1) broadcasts_S1024x1_S1024x52)
    (shapeCast S1024x52 old shapeCasts_S1024x52_S1024x52)

/-- The accumulator's last store, in the last point of its run. -/
def accPiece (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg9 : Memref sig .tc .vmem S1024x512 .f32) (harg9 : arg9.IsWhole)
    (x0 : Vec F S128x104 .f32) (x1 : Vec F S1024x2048 .fp8e4m3) (x2 : Vec F S1x1024x16 .f32) (x3 : Vec F S2048x512 .fp8e4m3) (xs0 : Vec F S1024x512 .f32) : View.Piece (Elt F) S1024x512 .f32 :=
  ⟨Rect.unit (s := S1024x512) ![0, 0] S1024x512.size inb_S1024x512_S1024x512_0_0, k0_pay1 (addf (ldAcc arg9 harg9 xs0) (part i arg3 harg3 arg4 harg4 arg5 harg5 arg6 harg6 x0 x1 x2 x3))⟩

theorem inbA (q : Fin 4) : ∀ a, (![0, 128 * q.val] : Fin 2 → ℕ) a + S1024x128.size a ≤ S1024x512.size a := by
  revert q; decide

/-- The `q`-th 128-wide column block of the accumulator, loaded back after that store. -/
def ldTile (arg9 : Memref sig .tc .vmem S1024x512 .f32) (P : View.Piece (Elt F) S1024x512 .f32) (q : Fin 4) : Vec F S1024x128 .f32 :=
  arg9.view.readCov [P] (Rect.unit (s := S1024x512) ![0, 128 * q.val] S1024x128.size (inbA q)).toLoadRect

set_option maxHeartbeats 4000000 in
theorem pieces_C4 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i) (x0 : Vec F S128x104 .f32) (x1 : Vec F S1024x2048 .fp8e4m3) (x2 : Vec F S1x1024x16 .f32) (x3 : Vec F S2048x512 .fp8e4m3) (xs0 : Vec F S1024x512 .f32) :
    (kernelRun0_C c i arg3 harg3 arg4 harg4 arg5 harg5 arg6 harg6 arg7 harg7 arg8 harg8 arg9 harg9 hc0 hc1 x0 x1 x2 x3 xs0).1
      = [⟨Rect.unit (s := S1024x256) ![0, 128] S1024x128.size inb_S1024x256_S1024x128_0_128,
            codesv (ldTile arg9 (accPiece i arg3 harg3 arg4 harg4 arg5 harg5 arg6 harg6 arg9 harg9 x0 x1 x2 x3 xs0) 2) (ldTile arg9 (accPiece i arg3 harg3 arg4 harg4 arg5 harg5 arg6 harg6 arg9 harg9 x0 x1 x2 x3 xs0) 3)⟩,
         ⟨Rect.unit (s := S1024x256) ![0, 0] S1024x128.size inb_S1024x256_S1024x128_0_0,
            codesv (ldTile arg9 (accPiece i arg3 harg3 arg4 harg4 arg5 harg5 arg6 harg6 arg9 harg9 x0 x1 x2 x3 xs0) 0) (ldTile arg9 (accPiece i arg3 harg3 arg4 harg4 arg5 harg5 arg6 harg6 arg9 harg9 x0 x1 x2 x3 xs0) 1)⟩] := rfl

/-- The first of the two stores to the block of scales. -/
def scalePiece (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg8 : Memref sig .tc .vmem S1024x52 .f32) (harg8 : arg8.IsWhole)
    (arg9 : Memref sig .tc .vmem S1024x512 .f32) (harg9 : arg9.IsWhole)
    (x0 : Vec F S128x104 .f32) (x1 : Vec F S1024x2048 .fp8e4m3) (x2 : Vec F S1x1024x16 .f32) (x3 : Vec F S2048x512 .fp8e4m3) (xs0 : Vec F S1024x512 .f32) (x5 : Vec F S1024x52 .f32) : View.Piece (Elt F) S1024x52 .f32 :=
  ⟨Rect.unit (s := S1024x52) ![0, 0] S1024x52.size inb_S1024x52_S1024x52_0_0,
    scalev (BitVec.ofNat 32 (i 1).val) 0#32 (ldTile arg9 (accPiece i arg3 harg3 arg4 harg4 arg5 harg5 arg6 harg6 arg9 harg9 x0 x1 x2 x3 xs0) 0) (ldTile arg9 (accPiece i arg3 harg3 arg4 harg4 arg5 harg5 arg6 harg6 arg9 harg9 x0 x1 x2 x3 xs0) 1)
      (View.readAt (Elt F) arg8.view (Rect.unit (s := S1024x52) ![0, 0] S1024x52.size inb_S1024x52_S1024x52_0_0).toLoadRect (harg8.unread x5))⟩

set_option maxHeartbeats 4000000 in
theorem pieces_C5 (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i) (x0 : Vec F S128x104 .f32) (x1 : Vec F S1024x2048 .fp8e4m3) (x2 : Vec F S1x1024x16 .f32) (x3 : Vec F S2048x512 .fp8e4m3) (xs0 : Vec F S1024x512 .f32) (x5 : Vec F S1024x52 .f32) :
    (kernelRun0_C c i arg3 harg3 arg4 harg4 arg5 harg5 arg6 harg6 arg7 harg7 arg8 harg8 arg9 harg9 hc0 hc1 x0 x1 x2 x3 xs0).2.1 x5
      = [⟨Rect.unit (s := S1024x52) ![0, 0] S1024x52.size inb_S1024x52_S1024x52_0_0,
            scalev (BitVec.ofNat 32 (i 1).val) 1#32 (ldTile arg9 (accPiece i arg3 harg3 arg4 harg4 arg5 harg5 arg6 harg6 arg9 harg9 x0 x1 x2 x3 xs0) 2) (ldTile arg9 (accPiece i arg3 harg3 arg4 harg4 arg5 harg5 arg6 harg6 arg9 harg9 x0 x1 x2 x3 xs0) 3)
              (arg8.view.readCov [scalePiece i arg3 harg3 arg4 harg4 arg5 harg5 arg6 harg6 arg8 harg8 arg9 harg9 x0 x1 x2 x3 xs0 x5] (Rect.unit (s := S1024x52) ![0, 0] S1024x52.size inb_S1024x52_S1024x52_0_0).toLoadRect)⟩,
         scalePiece i arg3 harg3 arg4 harg4 arg5 harg5 arg6 harg6 arg8 harg8 arg9 harg9 x0 x1 x2 x3 xs0 x5] := rfl

set_option maxHeartbeats 4000000 in
theorem pieces_CS (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
    (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (hc0 : ¬cond0_0 i) (hc1 : cond0_1 i) (x0 : Vec F S128x104 .f32) (x1 : Vec F S1024x2048 .fp8e4m3) (x2 : Vec F S1x1024x16 .f32) (x3 : Vec F S2048x512 .fp8e4m3) (xs0 : Vec F S1024x512 .f32) :
    (kernelRun0_C c i arg3 harg3 arg4 harg4 arg5 harg5 arg6 harg6 arg7 harg7 arg8 harg8 arg9 harg9 hc0 hc1 x0 x1 x2 x3 xs0).2.2.1
      = [accPiece i arg3 harg3 arg4 harg4 arg5 harg5 arg6 harg6 arg9 harg9 x0 x1 x2 x3 xs0] := rfl

end Cert.KernelIdeal.Own

end
-- ==== Proof.KI.Term.lean ====
/- What one point adds to the accumulator, read at an index over the extended reals. -/
module

public import proofs.«01_k».proof.Proof.KI.Group
public import Idealize.ShloMosaic.Lib.Pointwise
public import Idealize.ShloMosaic.Lib.WholeRead

@[expose] public section

-- rectangles of production extents: the elaborator's structural look recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

variable (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
  (x0 : Vec Ideal S128x104 .f32) (x1 : Vec Ideal S1024x2048 .fp8e4m3) (x2 : Vec Ideal S1x1024x16 .f32) (x3 : Vec Ideal S2048x512 .fp8e4m3)

/-- One product of the contraction, at position `k` of group `g` of the point. -/
def tm (g : Fin 16) (r : Fin 1024) (c : Fin 512) (k : Fin 128) : EReal :=
  (x1 (ix2 r ⟨128 * g.val + k.val, by omega⟩) * x2 (ix3 0 r g))
    * (x3 (ix2 ⟨128 * g.val + k.val, by omega⟩ c)
      * x0 (ix2 ⟨16 * (i 2).val + g.val, by have := (i 2).isLt; have : (i 2).val < 8 := this; omega⟩ ⟨4 * (i 1).val + c.val / 128, by have : (i 1).val < 26 := (i 1).isLt; omega⟩))

theorem xg_apply (g : Fin 16) (r : Fin 1024) (k : Fin 128) :
    xg arg3 harg3 arg4 harg4 arg5 harg5 arg6 harg6 x0 x1 x2 x3 g (ix2 r k)
      = x1 (ix2 r ⟨128 * g.val + k.val, by omega⟩) * x2 (ix3 0 r g) := by
  unfold xg
  pointwise [k0_pay23]
  rw [Memref.IsWhole.readAt_unread, Memref.IsWhole.readAt_unread]
  refine congrArg₂ (· * ·) (congrArg x1 (funext fun a => Fin.ext ?_)) (congrArg x2 (funext fun a => Fin.ext ?_))
  · fin_cases a
    · show 0 + 1 * r.val = r.val; omega
    · show 128 * g.val + 1 * k.val = 128 * g.val + k.val; omega
  · fin_cases a
    · rfl
    · show 0 + 1 * r.val = r.val; omega
    · show g.val + 0 * 1 = g.val; omega

theorem wg_apply (g : Fin 16) (b : Fin 4) (p q : Fin 128) :
    wg i arg3 harg3 arg4 harg4 arg5 harg5 arg6 harg6 x0 x1 x2 x3 g b (ix2 p q)
      = x3 (ix2 ⟨128 * g.val + p.val, by omega⟩ ⟨128 * b.val + q.val, by omega⟩)
        * x0 (ix2 ⟨16 * (i 2).val + g.val, by have := (i 2).isLt; have : (i 2).val < 8 := this; omega⟩ ⟨4 * (i 1).val + b.val, by have : (i 1).val < 26 := (i 1).isLt; omega⟩) := by
  unfold wg
  pointwise [k0_pay24]
  rw [Memref.IsWhole.readAt_unread, Memref.IsWhole.readAt_unread]
  refine congrArg₂ (· * ·) (congrArg x3 (funext fun a => Fin.ext ?_)) (congrArg x0 (funext fun a => Fin.ext ?_))
  · fin_cases a
    · show 128 * g.val + 1 * p.val = 128 * g.val + p.val; omega
    · show 128 * b.val + 1 * q.val = 128 * b.val + q.val; omega
  · have e := k0_off1_eq i g b
    fin_cases a
    · show k0_off1 i (BitVec.ofNat 32 g.val) (BitVec.ofNat 32 b.val) 0 + 0 * 1 = 16 * (i 2).val + g.val
      rw [e]; rfl
    · show k0_off1 i (BitVec.ofNat 32 g.val) (BitVec.ofNat 32 b.val) 1 + 0 * 1 = 4 * (i 1).val + b.val
      rw [e]; rfl

theorem grp_apply (g : Fin 16) (r : Fin 1024) (c : Fin 512) :
    grp i arg3 harg3 arg4 harg4 arg5 harg5 arg6 harg6 x0 x1 x2 x3 g (ix2 r c)
      = ∑ k : Fin 128, tm i x0 x1 x2 x3 g r c k := by
  unfold grp
  pointwise []
  refine Finset.sum_congr rfl fun k _ => ?_
  rw [xg_apply, tm]
  refine congrArg _ ?_
  have hc := c.isLt
  split_ifs with h1 h2 h3 <;> rw [wg_apply] <;>
    refine congrArg₂ (· * ·) (congrArg x3 (congrArg (ix2 _) (Fin.ext ?_))) (congrArg x0 (congrArg (ix2 _) (Fin.ext ?_))) <;>
    dsimp only [] <;> simp only [Fin.val_zero, Fin.val_one, Fin.val_two, show (3 : Fin 4).val = 3 from rfl] <;> omega

/-- What one point adds to the accumulator at row `r` and column `c`. -/
theorem part_apply (r : Fin 1024) (c : Fin 512) :
    part i arg3 harg3 arg4 harg4 arg5 harg5 arg6 harg6 x0 x1 x2 x3 (ix2 r c)
      = ∑ g : Fin 16, ∑ k : Fin 128, tm i x0 x1 x2 x3 g r c k := by
  have e : part i arg3 harg3 arg4 harg4 arg5 harg5 arg6 harg6 x0 x1 x2 x3 (ix2 r c)
      = ∑ g : Fin 16, grp i arg3 harg3 arg4 harg4 arg5 harg5 arg6 harg6 x0 x1 x2 x3 g (ix2 r c) := by
    simp only [Fin.sum_univ_succ, Fin.sum_univ_zero, part]
    pointwise []
    simp only [add_assoc, add_zero]
    rfl
  rw [e]
  exact Finset.sum_congr rfl fun g _ => grp_apply _ _ _ _ _ _ _ _ _ _ _ _ _ g r c

end Cert.KernelIdeal.Own

end
-- ==== Proof.Own.Pure.lean ====
module

public import Idealize.ShloMosaic.Lib.IdealHost
public import Mathlib.Analysis.SpecialFunctions.Pow.Real

/-!
The exponent of the requantisation, on one extended real: the kernel finds the biased exponent field by a
binary search over the powers of two that f32 denotes, the reference by the floor of the logarithm to base
two. Both give the same scale and the same inverse scale.
-/

@[expose] public section

namespace Cert.Own

open Idealize.ShloMosaic

/-- The extended real whose f32 pattern has `b` in the exponent field and nothing else. -/
noncomputable def pw (b : BitVec 32) : EReal := Ideal.ofBits .f32 (IntOp.shli .vector b 23#32)

/-- One step of the search: keep `b + s` when its power is at most `y`. -/
noncomputable def step (y : EReal) (b s : BitVec 32) : BitVec 32 :=
  Scalar.select (Ideal.cmp .oge y (pw (b + s))) (b + s) b

/-- The eight steps of the search from nothing. -/
noncomputable def biased (y : EReal) : BitVec 32 :=
  step y (step y (step y (step y (step y (step y (step y (step y 0#32 128#32) 64#32) 32#32) 16#32) 8#32) 4#32) 2#32) 1#32

/-- The field with the two ends sent to that of one half. -/
def mend (b : BitVec 32) : BitVec 32 :=
  Scalar.select (IntOp.ori (IntOp.cmpi .eq b 0#32) (IntOp.cmpi .eq b 255#32)) 126#32 b

/-- The kernel's scale. -/
noncomputable def scaleK (y : EReal) : EReal := pw (mend (biased y) + 1#32)

/-- The kernel's inverse scale. -/
noncomputable def invK (y : EReal) : EReal := pw (IntOp.maxsi (253#32 - mend (biased y)) 0#32)

/-- The reference's exponent before the two ends are mended. -/
noncomputable def expo0 (y : EReal) : EReal :=
  Ideal.liftRound Int.floor (Ideal.div (Ideal.log y) (Ideal.log (Ideal.ofBits .f32 0x40000000#32)))
    + Ideal.ofBits .f32 0x3F800000#32

/-- The reference's exponent. -/
noncomputable def expo (y : EReal) : EReal :=
  Scalar.select (IntOp.ori (Ideal.cmp .olt y (Ideal.ofBits .f32 0x00800000#32))
    (Ideal.cmp .oeq y (Ideal.ofBits .f32 0x7F800000#32))) (Ideal.ofBits .f32 0x00000000#32) (expo0 y)

/-- Two to the `e` within f32's range. -/
noncomputable def ldexp1 (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32)
      (Ideal.exp2 e))

/-- The reference's scale. -/
noncomputable def scaleR (y : EReal) : EReal := ldexp1 (expo y)

/-- The reference's inverse scale. -/
noncomputable def invR (y : EReal) : EReal := ldexp1 (Ideal.ofBits .f32 0x00000000#32 - expo y)

/-- The power of two of a field, in plain terms. -/
noncomputable def T (n : ℕ) : EReal :=
  if n = 0 then 0 else if n = 255 then ⊤ else (((2 : ℝ) ^ ((n : ℤ) - 127) : ℝ) : EReal)

theorem fields (n : Fin 256) :
    ((IntOp.shli .vector (BitVec.ofNat 32 n.1) 23#32).extractLsb' 31 1 == 1#1) = false ∧
    ((IntOp.shli .vector (BitVec.ofNat 32 n.1) 23#32).extractLsb' 23 8).toNat = n.1 ∧
    ((IntOp.shli .vector (BitVec.ofNat 32 n.1) 23#32).extractLsb' 0 23).toNat = 0 := by
  revert n; decide +kernel

/-- A field below 256 denotes its power of two. -/
theorem pw_eq {n : ℕ} (h : n < 256) : pw (BitVec.ofNat 32 n) = T n := by
  obtain ⟨h1, h2, h3⟩ := fields ⟨n, h⟩
  have e : pw (BitVec.ofNat 32 n) = Ideal.ieee 8 23 (IntOp.shli .vector (BitVec.ofNat 32 n) 23#32) := rfl
  rw [e]
  unfold Ideal.ieee T
  simp only [] at h1 h2 h3
  simp only [show 8 + 23 = 31 from rfl, h1, h2, h3]
  by_cases n0 : n = 0
  · subst n0; simp
  by_cases n1 : n = 255
  · subst n1; simp
  rw [if_neg (by omega), if_neg n0, if_neg n0, if_neg n1]
  refine congrArg _ ?_
  have h23 : ((2 ^ 23 + 0 : ℕ) : ℝ) = (2 : ℝ) ^ (23 : ℤ) := by rw [Nat.add_zero, Nat.cast_pow]; rfl
  rw [h23, if_neg (by simp), one_mul, ← zpow_add₀ (by norm_num)]
  exact congrArg _ (by norm_num)

theorem T_mono {a b : ℕ} (h : a ≤ b) (hb : b ≤ 255) : T a ≤ T b := by
  unfold T
  split_ifs with h1 h2 h3 h4 h5 h6 h7
  all_goals first | exact le_rfl | exact le_top | (exfalso; omega) | skip
  · exact EReal.coe_nonneg.mpr (by positivity)
  · exact EReal.coe_le_coe_iff.mpr (zpow_le_zpow_right₀ (by norm_num) (by omega))

/-- The greatest field whose power is at most `y`, or nothing. -/
noncomputable def fld (y : EReal) : ℕ := by
  classical exact Nat.findGreatest (fun n => T n ≤ y) 255

theorem fld_le (y : EReal) : fld y ≤ 255 := by
  classical exact Nat.findGreatest_le _

theorem le_fld_iff (y : EReal) {n : ℕ} (h1 : 1 ≤ n) (h : n ≤ 255) : T n ≤ y ↔ n ≤ fld y := by
  classical
  constructor
  · intro hn
    exact Nat.le_findGreatest (P := fun n => T n ≤ y) h hn
  · intro hn
    have : T (fld y) ≤ y :=
      Nat.findGreatest_of_ne_zero (P := fun n => T n ≤ y) (n := 255) (m := fld y) (by unfold fld; congr) (by omega)
    exact (T_mono hn (fld_le y)).trans this

theorem step_eq (y : EReal) {k s : ℕ} (hs : 1 ≤ s) (h : k + 2 * s ≤ 256) :
    step y (BitVec.ofNat 32 k) (BitVec.ofNat 32 s) = BitVec.ofNat 32 (if k + s ≤ fld y then k + s else k) := by
  unfold step
  rw [← BitVec.ofNat_add, pw_eq (by omega)]
  have := le_fld_iff y (n := k + s) (by omega) (by omega)
  by_cases c : k + s ≤ fld y
  · simp [Scalar.select, Ideal.cmp, this.mpr c, c]
  · have c' : ¬ T (k + s) ≤ y := fun q => c (this.mp q)
    simp [Scalar.select, Ideal.cmp, c', c]

/-- The search on a number: eight steps find it. -/
def srch (N : ℕ) : ℕ :=
  let g := fun k s => if k + s ≤ N then k + s else k
  g (g (g (g (g (g (g (g 0 128) 64) 32) 16) 8) 4) 2) 1

theorem srch_eq : ∀ N : Fin 256, srch N.1 = N.1 := by decide +kernel

theorem biased_eq (y : EReal) : biased y = BitVec.ofNat 32 (fld y) := by
  have e := srch_eq ⟨fld y, Nat.lt_succ_of_le (fld_le y)⟩
  have up : ∀ {k s : ℕ}, 1 ≤ s → k + 2 * s ≤ 256 → (if k + s ≤ fld y then k + s else k) + s ≤ 256 := by
    intro k s _ _; split <;> omega
  unfold srch at e
  simp only [] at e
  conv_rhs => rw [← e]
  unfold biased
  have b1 := up (k := 0) (s := 128) (by omega) (by omega)
  have b2 := up (s := 64) (by omega) b1
  have b3 := up (s := 32) (by omega) b2
  have b4 := up (s := 16) (by omega) b3
  have b5 := up (s := 8) (by omega) b4
  have b6 := up (s := 4) (by omega) b5
  have b7 := up (s := 2) (by omega) b6
  rw [step_eq y (k := 0) (s := 128) (by omega) (by omega), step_eq y (s := 64) (by omega) b1,
    step_eq y (s := 32) (by omega) b2, step_eq y (s := 16) (by omega) b3, step_eq y (s := 8) (by omega) b4,
    step_eq y (s := 4) (by omega) b5, step_eq y (s := 2) (by omega) b6, step_eq y (s := 1) (by omega) b7]

/-- The mended field on a number. -/
def mendN (N : ℕ) : ℕ := if N = 0 ∨ N = 255 then 126 else N

theorem mend_eq : ∀ N : Fin 256, mend (BitVec.ofNat 32 N.1) + 1#32 = BitVec.ofNat 32 (mendN N.1 + 1) ∧
    IntOp.maxsi (253#32 - mend (BitVec.ofNat 32 N.1)) 0#32 = BitVec.ofNat 32 (253 - mendN N.1) ∧
    mendN N.1 ≤ 254 := by decide +kernel

theorem scaleK_eq (y : EReal) : scaleK y = T (mendN (fld y) + 1) := by
  obtain ⟨h1, h2, h3⟩ := mend_eq ⟨fld y, Nat.lt_succ_of_le (fld_le y)⟩
  unfold scaleK
  rw [biased_eq, h1, pw_eq (Nat.lt_succ_of_le (Nat.succ_le_succ h3))]

theorem invK_eq (y : EReal) : invK y = T (253 - mendN (fld y)) := by
  obtain ⟨h1, h2, h3⟩ := mend_eq ⟨fld y, Nat.lt_succ_of_le (fld_le y)⟩
  unfold invK
  rw [biased_eq, h2, pw_eq (by omega)]

theorem lit_two : Ideal.ofBits .f32 0x40000000#32 = ((2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_top : Ideal.ofBits .f32 0x7F800000#32 = ⊤ := by
  simp [Ideal.ofBits, Ideal.ieee]
theorem lit_hi : Ideal.ofBits .f32 0x42FE0000#32 = ((127 : ℝ) : EReal) := by
  simp [Ideal.ofBits, Ideal.ieee, -EReal.coe_mul]; norm_num
theorem lit_lo : Ideal.ofBits .f32 0xC2FC0000#32 = ((-126 : ℝ) : EReal) := by
  simp [Ideal.ofBits, Ideal.ieee, -EReal.coe_mul, -EReal.coe_neg]; norm_num
theorem lit_min : Ideal.ofBits .f32 0x00800000#32 = T 1 := by
  rw [← pw_eq (by omega)]; rfl

/-- `ldexp1` at an integer. -/
theorem ldexp1_int (z : ℤ) : ldexp1 ((z : ℝ) : EReal) =
    if 127 < z then ⊤ else if z < -126 then 0 else (((2 : ℝ) ^ z : ℝ) : EReal) := by
  unfold ldexp1
  rw [lit_hi, lit_lo, lit_top, lit_zero]
  have h1 : (((127 : ℝ) : EReal) < ((z : ℝ) : EReal)) ↔ 127 < z := by
    rw [EReal.coe_lt_coe_iff]; exact_mod_cast Iff.rfl
  have h2 : (((z : ℝ) : EReal) < ((-126 : ℝ) : EReal)) ↔ z < -126 := by
    rw [EReal.coe_lt_coe_iff]; exact_mod_cast Iff.rfl
  have h3 : Ideal.exp2 ((z : ℝ) : EReal) = (((2 : ℝ) ^ z : ℝ) : EReal) := by
    show ((Real.rpow 2 (z : ℝ) : ℝ) : EReal) = _
    congr 1; exact Real.rpow_intCast 2 z
  rw [h3]
  unfold Scalar.select Ideal.cmp
  simp only [h1, h2]
  by_cases c1 : 127 < z <;> by_cases c2 : z < -126 <;> simp [c1, c2]

/-- The reference's exponent at the two ends. -/
theorem expo_end (y : EReal) (h : fld y = 0 ∨ fld y = 255) : expo y = ((0 : ℤ) : ℝ) := by
  unfold expo
  rw [lit_min, lit_top, lit_zero]
  rcases h with h | h
  · have : ¬ T 1 ≤ y := fun q => by have := (le_fld_iff y (n := 1) (by omega) (by omega)).mp q; omega
    have : y < T 1 := not_le.mp this
    have g : Ideal.cmp .olt y (T 1) = 1#1 := by simp [Ideal.cmp, this]
    rw [g]
    have : ∀ b : BitVec 1, IntOp.ori 1#1 b = 1#1 := by decide
    rw [this]; simp [Scalar.select]
  · have : T 255 ≤ y := (le_fld_iff y (n := 255) (by omega) (by omega)).mpr (by omega)
    have : y = ⊤ := top_le_iff.mp (by simpa [T] using this)
    have g : Ideal.cmp .oeq y ⊤ = 1#1 := by simp [Ideal.cmp, this]
    rw [g]
    have : ∀ b : BitVec 1, IntOp.ori b 1#1 = 1#1 := by decide
    rw [this]; simp [Scalar.select]

/-- The reference's exponent between the ends. -/
theorem expo_mid (y : EReal) (h0 : 1 ≤ fld y) (h1 : fld y ≤ 254) :
    ∃ z : ℤ, expo y = ((z : ℝ) : EReal) ∧ (fld y : ℤ) - 126 ≤ z ∧ (fld y ≤ 253 → z = (fld y : ℤ) - 126) := by
  have hl : T (fld y) ≤ y := (le_fld_iff y h0 (by omega)).mpr le_rfl
  have hu : y < T (fld y + 1) := not_le.mp fun q => by
    have := (le_fld_iff y (n := fld y + 1) (by omega) (by omega)).mp q; omega
  have hmin : ¬ y < T 1 := not_lt.mpr ((T_mono h0 (by omega)).trans hl)
  have htop : y ≠ ⊤ := fun q => by rw [q] at hu; exact absurd le_top (not_le.mpr hu)
  have hTl : T (fld y) = (((2 : ℝ) ^ ((fld y : ℤ) - 127) : ℝ) : EReal) := by
    unfold T; rw [if_neg (by omega), if_neg (by omega)]
  rw [hTl] at hl
  have hbot : y ≠ ⊥ := fun q => by rw [q] at hl; exact absurd hl (by simp)
  obtain ⟨r, hr⟩ : ∃ r : ℝ, y = (r : EReal) := ⟨y.toReal, (EReal.coe_toReal htop hbot).symm⟩
  have hr1 : (2 : ℝ) ^ ((fld y : ℤ) - 127) ≤ r := by rw [hr] at hl; rw [hr]; exact EReal.coe_le_coe_iff.mp hl
  have rpos : 0 < r := lt_of_lt_of_le (by positivity) hr1
  have l2 : 0 < Real.log 2 := Real.log_pos (by norm_num)
  refine ⟨⌊Real.log r / Real.log 2⌋ + 1, ?_, ?_, ?_⟩
  · unfold expo
    rw [lit_min, lit_top, lit_zero]
    have g1 : Ideal.cmp .olt y (T 1) = 0#1 := by simp [Ideal.cmp, hmin]
    have g2 : Ideal.cmp .oeq y ⊤ = 0#1 := by simp [Ideal.cmp, htop]
    rw [g1, g2]
    have : IntOp.ori 0#1 0#1 = 0#1 := by decide
    rw [this]
    have : ∀ a b : EReal, Scalar.select 0#1 a b = b := fun a b => by simp [Scalar.select]
    rw [this]
    unfold expo0
    rw [lit_two, lit_one, hr]
    have e1 : Ideal.log ((r : ℝ) : EReal) = ((Real.log r : ℝ) : EReal) := by
      show (if r ≤ 0 then (⊥ : EReal) else ((Real.log r : ℝ) : EReal)) = _
      rw [if_neg (not_le.mpr rpos)]
    have e2 : Ideal.log (((2 : ℝ)) : EReal) = ((Real.log 2 : ℝ) : EReal) := by
      show (if (2 : ℝ) ≤ 0 then (⊥ : EReal) else ((Real.log 2 : ℝ) : EReal)) = _
      rw [if_neg (by norm_num)]
    have e3 : Ideal.div ((Real.log r : ℝ) : EReal) ((Real.log 2 : ℝ) : EReal) = ((Real.log r / Real.log 2 : ℝ) : EReal) := by
      unfold Ideal.div
      rw [if_neg (by exact_mod_cast l2.ne'), ← EReal.coe_inv, ← EReal.coe_mul, div_eq_mul_inv]
    rw [e1, e2, e3]
    show (((⌊Real.log r / Real.log 2⌋ : ℤ) : ℝ) : EReal) + ((1 : ℝ) : EReal) = _
    rw [← EReal.coe_add]; push_cast; rfl
  · have : (fld y : ℤ) - 127 ≤ ⌊Real.log r / Real.log 2⌋ := by
      rw [Int.le_floor, le_div_iff₀ l2, ← Real.log_zpow]
      exact Real.log_le_log (by positivity) hr1
    omega
  · intro h2
    have hTu : T (fld y + 1) = (((2 : ℝ) ^ ((fld y : ℤ) - 126) : ℝ) : EReal) := by
      unfold T; rw [if_neg (by omega), if_neg (by omega)]; push_cast; congr 2; ring
    have hr2 : r < (2 : ℝ) ^ ((fld y : ℤ) - 126) := by
      rw [hTu] at hu; rw [hr] at hu ⊢; exact EReal.coe_lt_coe_iff.mp hu
    have : ⌊Real.log r / Real.log 2⌋ = (fld y : ℤ) - 127 := by
      rw [Int.floor_eq_iff]
      constructor
      · rw [le_div_iff₀ l2, ← Real.log_zpow]
        exact Real.log_le_log (by positivity) hr1
      · have : (((fld y : ℤ) - 127 : ℤ) : ℝ) + 1 = (((fld y : ℤ) - 126 : ℤ) : ℝ) := by push_cast; ring
        rw [this, div_lt_iff₀ l2, ← Real.log_zpow]
        exact Real.log_lt_log rpos hr2
    omega

/-- The two scales agree. -/
theorem scale_eq (y : EReal) : scaleK y = scaleR y := by
  rw [scaleK_eq]; unfold scaleR
  by_cases h : fld y = 0 ∨ fld y = 255
  · rw [expo_end y h, ldexp1_int, mendN, if_pos h]
    norm_num [T]
  · have := fld_le y
    obtain ⟨z, hz, h1, h2⟩ := expo_mid y (by omega) (by omega)
    rw [hz, ldexp1_int, mendN, if_neg h]
    by_cases c : fld y ≤ 253
    · have := h2 c
      rw [if_neg (by omega), if_neg (by omega), T, if_neg (by omega), if_neg (by omega), this]
      push_cast; congr 2; ring
    · rw [if_pos (by omega), T, if_neg (by omega), if_pos (by omega)]

/-- The two inverse scales agree. -/
theorem inv_eq (y : EReal) : invK y = invR y := by
  rw [invK_eq]; unfold invR
  by_cases h : fld y = 0 ∨ fld y = 255
  · rw [expo_end y h, lit_zero, ← EReal.coe_sub, show (0 : ℝ) - ((0 : ℤ) : ℝ) = ((0 : ℤ) : ℝ) by simp, ldexp1_int, mendN,
      if_pos h]
    norm_num [T]
  · have := fld_le y
    obtain ⟨z, hz, h1, h2⟩ := expo_mid y (by omega) (by omega)
    rw [hz, lit_zero, ← EReal.coe_sub, show (0 : ℝ) - (z : ℝ) = ((-z : ℤ) : ℝ) by push_cast; ring, ldexp1_int, mendN,
      if_neg h]
    by_cases c : fld y ≤ 252
    · have := h2 (by omega)
      rw [if_neg (by omega), if_neg (by omega), T, if_neg (by omega), if_neg (by omega), this]
      congr 2; push_cast [Nat.cast_sub (show fld y ≤ 253 by omega)]; ring
    · rw [if_neg (by omega), if_pos (by omega), T, if_pos (by omega)]

end Cert.Own

end
-- ==== Proof.Own.Spec.lean ====
/- The mathematics of the two results over the extended reals: the dequantised product, the SwiGLU tile, the
   power-of-two scale of each row of a tile, and the codes. -/
module

public import proofs.«01_k».proof.Proof.Own.Pure
public import Idealize.ShloMosaic.Lib.Pointwise

@[expose] public section

noncomputable section

namespace Cert.Own

open Idealize.ShloMosaic

variable (a0 : (⟨3, ![8, 4096, 16384]⟩ : Shape).Idx → EReal) (a1 : (⟨3, ![8, 4096, 128]⟩ : Shape).Idx → EReal)
  (a2 : (⟨2, ![16384, 13312]⟩ : Shape).Idx → EReal) (a3 : (⟨2, ![128, 104]⟩ : Shape).Idx → EReal)

/-- One product of the contraction. -/
def term (r : Fin 32768) (c : Fin 13312) (k : Fin 16384) : EReal :=
  (a0 (ix3 ⟨r.val / 4096, by omega⟩ ⟨r.val % 4096, by omega⟩ k)
      * a1 (ix3 ⟨r.val / 4096, by omega⟩ ⟨r.val % 4096, by omega⟩ ⟨k.val / 128, by omega⟩))
    * (a2 (ix2 k c) * a3 (ix2 ⟨k.val / 128, by omega⟩ ⟨c.val / 128, by omega⟩))

/-- The product of the dequantised operands. -/
def prod (r : Fin 32768) (c : Fin 13312) : EReal := ∑ k : Fin 16384, term a0 a1 a2 a3 r c k

/-- SwiGLU of a gate and an up value. -/
def swi (g u : EReal) : EReal := g * Ideal.logistic g * u

/-- Column `l` of the `q`-th output tile. -/
def hid (r : Fin 32768) (q : Fin 52) (l : Fin 128) : EReal :=
  swi (prod a0 a1 a2 a3 r ⟨256 * q.val + l.val, by omega⟩) (prod a0 a1 a2 a3 r ⟨256 * q.val + 128 + l.val, by omega⟩)

/-- A row's largest magnitude over a tile, divided by the largest code. -/
def amax (h : Fin 128 → EReal) : EReal :=
  Finset.univ.fold max (Ideal.ofBits .f32 0xFF800000#32) (fun l => max (h l) (-h l)) * Ideal.ofBits .f32 0x3B124925#32

/-- A code: the value times the inverse scale, clipped. -/
def clip (x : EReal) : EReal := min (Ideal.ofBits .f32 0x43E00000#32) (max (Ideal.ofBits .f32 0xC3E00000#32) x)

def code (r : Fin 32768) (c : Fin 6656) : EReal :=
  clip (hid a0 a1 a2 a3 r ⟨c.val / 128, by omega⟩ ⟨c.val % 128, by omega⟩
    * invR (amax (hid a0 a1 a2 a3 r ⟨c.val / 128, by omega⟩)))

def scale (r : Fin 32768) (q : Fin 52) : EReal := scaleR (amax (hid a0 a1 a2 a3 r q))

end Cert.Own

end
-- ==== Proof.KI.Epi.lean ====
/- The end of a run of contraction points at an index: a tile's largest magnitudes, its scale and its codes. -/
module

public import proofs.«01_k».proof.Proof.Own.Spec
public import proofs.«01_k».proof.Proof.KI.Group

@[expose] public section

set_option maxRecDepth 16384

noncomputable section

namespace Cert.KernelIdeal.Own

open Cert.KernelIdeal Cert.KernelIdeal.Gen
open Idealize.ShloMosaic

/-- A tile's row's largest magnitude over the largest code. -/
def yv (g u : FVec Ideal S1024x128 .f32) (r : Fin 1024) : EReal :=
  Cert.Own.amax fun l => Cert.Own.swi (g (ix2 r l)) (u (ix2 r l))

theorem rowmax_apply (h : FVec Ideal S1024x128 .f32) (r : Fin 1024) :
    multiReduction .maximumf [1] S1024 (absf h) 0xFF800000#32 reduces_S1024x128_S1024 (.inl rfl) rfl (ix1 r)
      = Finset.univ.fold max (Ideal.ofBits .f32 0xFF800000#32) (fun l : Fin 128 => max (h (ix2 r l)) (-h (ix2 r l))) := by
  refine (multiReduction_maximumf_eq_fold (F := Ideal) (φ := .f32) (absf h) 0xFF800000#32 reduces_S1024x128_S1024 (.inl rfl) rfl (ix1 r)).trans ?_
  refine (Shape.Reduces.fold_fiber_r2_a1 _ _ _ _ _).trans ?_
  rfl

theorem column_apply (v : FVec Ideal S1024 .f32) (r : Fin 1024) :
    mulf (shapeCast S1024x1 v shapeCasts_S1024_S1024x1) (broadcast S1024x1 (Scalar.ofBits .f32 0x3B124925#32 : Ideal .f32)) (ix2 r 0)
      = v (ix1 r) * Ideal.ofBits .f32 0x3B124925#32 := by
  pointwise []

theorem pay4_apply (g u : FVec Ideal S1024x128 .f32) (i : S1024x128.Idx) : k0_pay4 (F := Ideal) g u i = Cert.Own.swi (g i) (u i) := rfl

theorem pay5_apply (g u : FVec Ideal S1024x128 .f32) (r : Fin 1024) : k0_pay5 (F := Ideal) g u (ix2 r 0) = yv g u r := by
  refine (column_apply (multiReduction .maximumf [1] S1024 (absf (k0_pay4 (F := Ideal) g u)) 0xFF800000#32 reduces_S1024x128_S1024 (.inl rfl) rfl) r).trans ?_
  rw [rowmax_apply]
  simp only [pay4_apply, yv, Cert.Own.amax]

/-- One step of the search, as a vector. -/
def vstep (y : FVec Ideal S1024x1 .f32) (b : IVec S1024x1 32) (s : BitVec 32) : IVec S1024x1 32 :=
  select (cmpf .oge y (bitcastToFloat (F := Ideal) .f32 (shli (addi b (broadcast S1024x1 s)) (broadcast S1024x1 23#32)))) (addi b (broadcast S1024x1 s)) b

theorem vstep_apply (y : FVec Ideal S1024x1 .f32) (b : IVec S1024x1 32) (s : BitVec 32) (i : S1024x1.Idx) :
    vstep y b s i = Cert.Own.step (y i) (b i) s := rfl

theorem pay6_eq (g u : FVec Ideal S1024x128 .f32) :
    k0_pay6 (F := Ideal) g u = vstep (k0_pay5 (F := Ideal) g u) (vstep (k0_pay5 (F := Ideal) g u) (vstep (k0_pay5 (F := Ideal) g u) (broadcast S1024x1 0#32) 128#32) 64#32) 32#32 := by
  unfold k0_pay6
  generalize k0_pay5 (F := Ideal) g u = y
  rfl

theorem pay9_eq (y : FVec Ideal S1024x1 .f32) (b : IVec S1024x1 32) :
    k0_pay9 (F := Ideal) y b (addi b (broadcast S1024x1 16#32)) k0_pay8
      = vstep y (vstep y (vstep y (vstep y (vstep y b 16#32) 8#32) 4#32) 2#32) 1#32 := rfl

theorem biased_apply (g u : FVec Ideal S1024x128 .f32) (r : Fin 1024) :
    k0_pay9 (F := Ideal) (k0_pay5 (F := Ideal) g u) (k0_pay6 (F := Ideal) g u) (k0_pay7 (F := Ideal) g u) k0_pay8 (ix2 r 0) = Cert.Own.biased (yv g u r) := by
  rw [show k0_pay7 (F := Ideal) g u = addi (k0_pay6 (F := Ideal) g u) (broadcast S1024x1 16#32) from rfl, pay9_eq, pay6_eq]
  simp only [vstep_apply, pay5_apply]
  rfl

theorem mend_apply (b : IVec S1024x1 32) (i : S1024x1.Idx) :
    k0_pay12 b (cmpi .eq b (broadcast S1024x1 0#32)) k0_pay11 i = Cert.Own.mend (b i) := rfl

theorem bvec_apply (g u : FVec Ideal S1024x128 .f32) (r : Fin 1024) : bvec (F := Ideal) g u (ix2 r 0) = Cert.Own.mend (Cert.Own.biased (yv g u r)) := by
  unfold bvec
  rw [show k0_pay10 (F := Ideal) (k0_pay5 (F := Ideal) g u) (k0_pay6 (F := Ideal) g u) (k0_pay7 (F := Ideal) g u) k0_pay8
      = cmpi .eq (k0_pay9 (F := Ideal) (k0_pay5 (F := Ideal) g u) (k0_pay6 (F := Ideal) g u) (k0_pay7 (F := Ideal) g u) k0_pay8) (broadcast S1024x1 0#32) from rfl, mend_apply, biased_apply]

theorem lanes_apply (v : FVec Ideal S1024x1 .f32) (r : Fin 1024) (l : Fin 128) :
    broadcastTo S1024x128 v broadcasts_S1024x1_S1024x128 (ix2 r l) = v (ix2 r 0) := by
  pointwise []

theorem pay2_apply (h : FVec Ideal S1024x128 .f32) (b : IVec S1024x1 32) (r : Fin 1024) (l : Fin 128) :
    k0_pay2 (F := Ideal) h b (ix2 r l) = Cert.Own.clip (h (ix2 r l) * Cert.Own.pw (IntOp.maxsi (253#32 - b (ix2 r 0)) 0#32)) := by
  have e : k0_pay2 (F := Ideal) h b (ix2 r l)
      = Cert.Own.clip (h (ix2 r l) * broadcastTo S1024x128 (fun i => Cert.Own.pw (IntOp.maxsi (253#32 - b i) 0#32) : FVec Ideal S1024x1 .f32) broadcasts_S1024x1_S1024x128 (ix2 r l)) := rfl
  rw [e, lanes_apply]

/-- A tile's codes. -/
theorem codesv_apply (g u : FVec Ideal S1024x128 .f32) (r : Fin 1024) (l : Fin 128) :
    codesv (F := Ideal) g u (ix2 r l) = Cert.Own.clip (Cert.Own.swi (g (ix2 r l)) (u (ix2 r l)) * Cert.Own.invR (yv g u r)) := by
  unfold codesv
  rw [pay2_apply, bvec_apply, pay4_apply, ← Cert.Own.inv_eq]
  rfl

theorem lanes52_apply (v : FVec Ideal S1024x1 .f32) (r : Fin 1024) (q : Fin 52) :
    broadcastTo S1024x52 (shapeCast S1024x1 v shapeCasts_S1024x1_S1024x1) broadcasts_S1024x1_S1024x52 (ix2 r q) = v (ix2 r 0) := by
  pointwise []

theorem cast52_apply (v : FVec Ideal S1024x52 .f32) (r : Fin 1024) (q : Fin 52) :
    shapeCast S1024x52 v shapeCasts_S1024x52_S1024x52 (ix2 r q) = v (ix2 r q) := by
  pointwise []

theorem iota_apply (r : Fin 1024) (q : Fin 52) : iota Kind.tc S1024x52 32 [1] iota_S1024x52_d1_w32 (ix2 r q) = BitVec.ofNat 32 q.val := by
  pointwise []

theorem lane_eq : ∀ n : Fin 26, ∀ j : Fin 2, ∀ q : Fin 52,
    IntOp.cmpi .eq (BitVec.ofNat 32 q.val) (Scalar.addi (Scalar.muli (BitVec.ofNat 32 n.val) 2#32) (BitVec.ofNat 32 j.val)) = if q.val = 2 * n.val + j.val then 1#1 else 0#1 := by
  decide +kernel

/-- A tile's scales, put in their lane of the block of scales. -/
theorem scalev_apply (n : Fin 26) (j : Fin 2) (g u : FVec Ideal S1024x128 .f32) (old : FVec Ideal S1024x52 .f32) (r : Fin 1024) (q : Fin 52) :
    scalev (F := Ideal) (BitVec.ofNat 32 n.val) (BitVec.ofNat 32 j.val) g u old (ix2 r q) = if q.val = 2 * n.val + j.val then Cert.Own.scaleR (yv g u r) else old (ix2 r q) := by
  have e : scalev (F := Ideal) (BitVec.ofNat 32 n.val) (BitVec.ofNat 32 j.val) g u old (ix2 r q)
      = Scalar.select (IntOp.cmpi .eq (iota Kind.tc S1024x52 32 [1] iota_S1024x52_d1_w32 (ix2 r q)) (Scalar.addi (Scalar.muli (BitVec.ofNat 32 n.val) 2#32) (BitVec.ofNat 32 j.val)))
        (broadcastTo S1024x52 (shapeCast S1024x1 (fun i => Cert.Own.pw (bvec (F := Ideal) g u i + 1#32) : FVec Ideal S1024x1 .f32) shapeCasts_S1024x1_S1024x1) broadcasts_S1024x1_S1024x52 (ix2 r q))
        (shapeCast S1024x52 old shapeCasts_S1024x52_S1024x52 (ix2 r q)) := by
    unfold scalev
    generalize bvec (F := Ideal) g u = b
    rfl
  rw [e, lanes52_apply, cast52_apply, iota_apply, lane_eq, bvec_apply, ← Cert.Own.scale_eq]
  split <;> rfl

end Cert.KernelIdeal.Own

end
-- ==== Proof.KI.Acc.lean ====
/- What each case of the body leaves in the accumulator and in the two result blocks, read at an index. -/
module

public import proofs.«01_k».proof.Proof.KI.Term
public import proofs.«01_k».proof.Proof.KI.Epi
public import proofs.«01_k».proof.Proof.KI.Frame
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe

theorem off0 : ∀ a : Fin 2, (![0, 0] : Fin 2 → ℕ) a = 0 := by decide

theorem pay1_apply (v : FVec Ideal S1024x512 .f32) (r : Fin 1024) (c : Fin 512) : k0_pay1 (F := Ideal) v (ix2 r c) = v (ix2 r c) := by
  pointwise [k0_pay1]

theorem zeros_apply (r : Fin 1024) (c : Fin 512) : k0_pay22 (F := Ideal) (ix2 r c) = 0 := by
  pointwise [k0_pay22]

theorem ldAcc_eq (arg9 : Memref sig .tc .vmem S1024x512 .f32) (harg9 : arg9.IsWhole) (xs0 : Vec Ideal S1024x512 .f32) :
    ldAcc arg9 harg9 xs0 = xs0 := by
  unfold ldAcc
  rw [View.readAt_eq_ld, Memref.IsWhole.read_unread, View.ld_unit_lit' _ _ off0]

section point

variable (c : Dev nD) (i : grid0.Coords) (arg3 : Memref sig .tc .smem S128x104 .f32) (harg3 : arg3.IsWhole) (arg4 : Memref sig .tc .vmem S1024x2048 .fp8e4m3) (harg4 : arg4.IsWhole) (arg5 : Memref sig .tc .vmem S1x1024x16 .f32) (harg5 : arg5.IsWhole) (arg6 : Memref sig .tc .vmem S2048x512 .fp8e4m3) (harg6 : arg6.IsWhole)
  (arg7 : Memref sig .tc .vmem S1024x256 .fp8e4m3) (harg7 : arg7.IsWhole) (arg8 : Memref sig .tc .vmem S1024x52 .f32) (harg8 : arg8.IsWhole) (arg9 : Memref sig .tc .vmem S1024x512 .f32) (harg9 : arg9.IsWhole) (x0 : Vec Ideal S128x104 .f32) (x1 : Vec Ideal S1024x2048 .fp8e4m3) (x2 : Vec Ideal S1x1024x16 .f32) (x3 : Vec Ideal S2048x512 .fp8e4m3)

/-- The accumulator after a point that found `xs0` in it. -/
def accV (i : grid0.Coords) (x0 : Vec Ideal S128x104 .f32) (x1 : Vec Ideal S1024x2048 .fp8e4m3) (x2 : Vec Ideal S1x1024x16 .f32) (x3 : Vec Ideal S2048x512 .fp8e4m3) (xs0 : Vec Ideal S1024x512 .f32) (r : Fin 1024) (cc : Fin 512) : EReal :=
  xs0 (ix2 r cc) + ∑ g : Fin 16, ∑ k : Fin 128, tm i x0 x1 x2 x3 g r cc k

/-- What the first point of a run leaves in the accumulator. -/
theorem soutA_apply (hc0 : cond0_0 i) (hc1 : ¬cond0_1 i) (r : Fin 1024) (cc : Fin 512) :
    sout0_A_0 c i arg3 harg3 arg4 harg4 arg5 harg5 arg6 harg6 arg7 harg7 arg8 harg8 arg9 harg9 hc0 hc1 x0 x1 x2 x3 (ix2 r cc) = ∑ g : Fin 16, ∑ k : Fin 128, tm i x0 x1 x2 x3 g r cc k := by
  unfold sout0_A_0
  rw [pieces_A, View.canon_cons_unit_lit' _ _ _ off0, pay1_apply]
  refine (congrArg₂ (· + ·) ?_ (part_apply i arg3 harg3 arg4 harg4 arg5 harg5 arg6 harg6 x0 x1 x2 x3 r cc)).trans (zero_add _)
  unfold zeroPiece
  rw [View.readCov_cons_unit_lit' _ _ _ _ _ off0 off0, zeros_apply]

/-- What a later point leaves in it. -/
theorem soutB_apply (hc0 : ¬cond0_0 i) (hc1 : ¬cond0_1 i) (xs0 : Vec Ideal S1024x512 .f32) (r : Fin 1024) (cc : Fin 512) :
    sout0_B_0 c i arg3 harg3 arg4 harg4 arg5 harg5 arg6 harg6 arg7 harg7 arg8 harg8 arg9 harg9 hc0 hc1 x0 x1 x2 x3 xs0 (ix2 r cc) = accV i x0 x1 x2 x3 xs0 r cc := by
  unfold sout0_B_0
  rw [pieces_B, View.canon_cons_unit_lit' _ _ _ off0, pay1_apply, ldAcc_eq]
  exact congrArg₂ (· + ·) rfl (part_apply i arg3 harg3 arg4 harg4 arg5 harg5 arg6 harg6 x0 x1 x2 x3 r cc)

theorem accPay_apply (xs0 : Vec Ideal S1024x512 .f32) (r : Fin 1024) (cc : Fin 512) :
    k0_pay1 (F := Ideal) (addf (ldAcc arg9 harg9 xs0) (part i arg3 harg3 arg4 harg4 arg5 harg5 arg6 harg6 x0 x1 x2 x3)) (ix2 r cc) = accV i x0 x1 x2 x3 xs0 r cc := by
  rw [pay1_apply, ldAcc_eq]
  exact congrArg₂ (· + ·) rfl (part_apply i arg3 harg3 arg4 harg4 arg5 harg5 arg6 harg6 x0 x1 x2 x3 r cc)

theorem soutC_apply (hc0 : ¬cond0_0 i) (hc1 : cond0_1 i) (xs0 : Vec Ideal S1024x512 .f32) (r : Fin 1024) (cc : Fin 512) :
    sout0_C_0 c i arg3 harg3 arg4 harg4 arg5 harg5 arg6 harg6 arg7 harg7 arg8 harg8 arg9 harg9 hc0 hc1 x0 x1 x2 x3 xs0 (ix2 r cc) = accV i x0 x1 x2 x3 xs0 r cc := by
  unfold sout0_C_0
  rw [pieces_CS]
  unfold accPiece
  rw [View.canon_cons_unit_lit' _ _ _ off0, accPay_apply]

/-- The last point's loads of the accumulator's column blocks. -/
theorem ldTile_apply (xs0 : Vec Ideal S1024x512 .f32) (q : Fin 4) (r : Fin 1024) (l : Fin 128) :
    ldTile arg9 (accPiece i arg3 harg3 arg4 harg4 arg5 harg5 arg6 harg6 arg9 harg9 x0 x1 x2 x3 xs0) q (ix2 r l) = accV i x0 x1 x2 x3 xs0 r ⟨128 * q.val + l.val, by omega⟩ := by
  unfold ldTile
  rw [View.readCov_eq_canon_ld _ _ _ (fun y => View.cover_of_tiledL _ S1024x512.size (by sl_kernel_rfl) y)]
  unfold accPiece
  rw [View.canon_cons_unit_lit' _ _ _ off0,
    View.ld_unit_apply_of _ _ _ _ _ (ix2 r (⟨128 * q.val + l.val, by omega⟩ : Fin 512)) (by
      intro a
      fin_cases a
      · show r.val = 0 + r.val; omega
      · rfl), accPay_apply]

/-- The SwiGLU tile `j` of the two that an accumulator block holds. -/
def hidV (acc : Fin 1024 → Fin 512 → EReal) (r : Fin 1024) (j : Fin 2) (l : Fin 128) : EReal :=
  Cert.Own.swi (acc r ⟨256 * j.val + l.val, by omega⟩) (acc r ⟨256 * j.val + 128 + l.val, by omega⟩)

theorem yv_tile (xs0 : Vec Ideal S1024x512 .f32) (r : Fin 1024) :
    (yv (ldTile arg9 (accPiece i arg3 harg3 arg4 harg4 arg5 harg5 arg6 harg6 arg9 harg9 x0 x1 x2 x3 xs0) 0) (ldTile arg9 (accPiece i arg3 harg3 arg4 harg4 arg5 harg5 arg6 harg6 arg9 harg9 x0 x1 x2 x3 xs0) 1) r = Cert.Own.amax (hidV (accV i x0 x1 x2 x3 xs0) r 0))
    ∧ (yv (ldTile arg9 (accPiece i arg3 harg3 arg4 harg4 arg5 harg5 arg6 harg6 arg9 harg9 x0 x1 x2 x3 xs0) 2) (ldTile arg9 (accPiece i arg3 harg3 arg4 harg4 arg5 harg5 arg6 harg6 arg9 harg9 x0 x1 x2 x3 xs0) 3) r = Cert.Own.amax (hidV (accV i x0 x1 x2 x3 xs0) r 1)) := by
  unfold yv
  simp only [ldTile_apply]
  exact ⟨rfl, rfl⟩

theorem codes_tile (xs0 : Vec Ideal S1024x512 .f32) (r : Fin 1024) (l : Fin 128) :
    (codesv (ldTile arg9 (accPiece i arg3 harg3 arg4 harg4 arg5 harg5 arg6 harg6 arg9 harg9 x0 x1 x2 x3 xs0) 0) (ldTile arg9 (accPiece i arg3 harg3 arg4 harg4 arg5 harg5 arg6 harg6 arg9 harg9 x0 x1 x2 x3 xs0) 1) (ix2 r l) = Cert.Own.clip (hidV (accV i x0 x1 x2 x3 xs0) r 0 l * Cert.Own.invR (Cert.Own.amax (hidV (accV i x0 x1 x2 x3 xs0) r 0))))
    ∧ (codesv (ldTile arg9 (accPiece i arg3 harg3 arg4 harg4 arg5 harg5 arg6 harg6 arg9 harg9 x0 x1 x2 x3 xs0) 2) (ldTile arg9 (accPiece i arg3 harg3 arg4 harg4 arg5 harg5 arg6 harg6 arg9 harg9 x0 x1 x2 x3 xs0) 3) (ix2 r l) = Cert.Own.clip (hidV (accV i x0 x1 x2 x3 xs0) r 1 l * Cert.Own.invR (Cert.Own.amax (hidV (accV i x0 x1 x2 x3 xs0) r 1)))) := by
  rw [codesv_apply, codesv_apply, (yv_tile i arg3 harg3 arg4 harg4 arg5 harg5 arg6 harg6 arg9 harg9 x0 x1 x2 x3 xs0 r).1, (yv_tile i arg3 harg3 arg4 harg4 arg5 harg5 arg6 harg6 arg9 harg9 x0 x1 x2 x3 xs0 r).2]
  simp only [ldTile_apply]
  exact ⟨rfl, rfl⟩

/-- The block of codes at its two column blocks. -/
theorem out4_apply (hc0 : ¬cond0_0 i) (hc1 : cond0_1 i) (xs0 : Vec Ideal S1024x512 .f32) (r : Fin 1024) (j : Fin 2) (l : Fin 128) :
    out4 c i arg3 harg3 arg4 harg4 arg5 harg5 arg6 harg6 arg7 harg7 arg8 harg8 arg9 harg9 hc0 hc1 x0 x1 x2 x3 xs0 (ix2 r ⟨128 * j.val + l.val, by omega⟩)
      = Cert.Own.clip (hidV (accV i x0 x1 x2 x3 xs0) r j l * Cert.Own.invR (Cert.Own.amax (hidV (accV i x0 x1 x2 x3 xs0) r j))) := by
  unfold out4
  rw [pieces_C4]
  have hj : j = 0 ∨ j = 1 := by omega
  rcases hj with rfl | rfl
  · rw [View.canon_cons_of_not_mem]
    · rw [show (ix2 r ⟨128 * (0 : Fin 2).val + l.val, by omega⟩ : S1024x256.Idx)
          = (Rect.unit (s := S1024x256) ![0, 0] S1024x128.size inb_S1024x256_S1024x128_0_0).emb (ix2 r l) from
            funext fun a => Fin.ext (by
              fin_cases a
              · show r.val = 0 + 1 * r.val; omega
              · show 128 * 0 + l.val = 0 + 1 * l.val; omega), View.canon_cons_emb]
      exact (codes_tile i arg3 harg3 arg4 harg4 arg5 harg5 arg6 harg6 arg9 harg9 x0 x1 x2 x3 xs0 r l).1
    · rw [Rect.mem_set_unit]
      intro h
      have := (h 1).1
      have h2 : 128 ≤ 128 * 0 + l.val := this
      omega
  · rw [show (ix2 r ⟨128 * (1 : Fin 2).val + l.val, by omega⟩ : S1024x256.Idx)
          = (Rect.unit (s := S1024x256) ![0, 128] S1024x128.size inb_S1024x256_S1024x128_0_128).emb (ix2 r l) from
            funext fun a => Fin.ext (by
              fin_cases a
              · show r.val = 0 + 1 * r.val; omega
              · show 128 * 1 + l.val = 128 + 1 * l.val; omega), View.canon_cons_emb]
    exact (codes_tile i arg3 harg3 arg4 harg4 arg5 harg5 arg6 harg6 arg9 harg9 x0 x1 x2 x3 xs0 r l).2

/-- The block of scales: two lanes put in what was there. -/
theorem out5_apply (hc0 : ¬cond0_0 i) (hc1 : cond0_1 i) (xs0 : Vec Ideal S1024x512 .f32) (x5 : Vec Ideal S1024x52 .f32) (r : Fin 1024) (q : Fin 52) :
    out5 c i arg3 harg3 arg4 harg4 arg5 harg5 arg6 harg6 arg7 harg7 arg8 harg8 arg9 harg9 hc0 hc1 x0 x1 x2 x3 xs0 x5 (ix2 r q)
      = if q.val = 2 * (i 1).val + 1 then Cert.Own.scaleR (Cert.Own.amax (hidV (accV i x0 x1 x2 x3 xs0) r 1))
        else if q.val = 2 * (i 1).val then Cert.Own.scaleR (Cert.Own.amax (hidV (accV i x0 x1 x2 x3 xs0) r 0)) else x5 (ix2 r q) := by
  unfold out5
  rw [pieces_C5, View.canon_cons_unit_lit' _ _ _ off0]
  refine (scalev_apply (i 1) 1 _ _ _ r q).trans ?_
  rw [(yv_tile i arg3 harg3 arg4 harg4 arg5 harg5 arg6 harg6 arg9 harg9 x0 x1 x2 x3 xs0 r).2]
  unfold scalePiece
  rw [View.readCov_cons_unit_lit' _ _ _ _ _ off0 off0]
  refine congrArg (ite _ _) ?_
  refine (scalev_apply (i 1) 0 _ _ _ r q).trans ?_
  rw [(yv_tile i arg3 harg3 arg4 harg4 arg5 harg5 arg6 harg6 arg9 harg9 x0 x1 x2 x3 xs0 r).1, View.readAt_eq_ld, Memref.IsWhole.read_unread, View.ld_unit_lit' _ _ off0]
  rfl

end point

end Cert.KernelIdeal.Own

end
-- ==== Proof.KI.Operands.lean ====
/- The blocks the kernel is given, read off the arguments. -/
module

public import proofs.«01_k».proof.Proof.KI.Frame
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe

theorem coords0 : ∀ t : Fin cfg0.N, (grid0.coords t 0).val = t.val / 208 :=
  (by decide +kernel : ∀ t : Fin grid0.N, _)
theorem coords1 : ∀ t : Fin cfg0.N, (grid0.coords t 1).val = t.val / 8 % 26 :=
  (by decide +kernel : ∀ t : Fin grid0.N, _)
theorem coords2 : ∀ t : Fin cfg0.N, (grid0.coords t 2).val = t.val % 8 :=
  (by decide +kernel : ∀ t : Fin grid0.N, _)

theorem lt_N (t : Fin cfg0.N) : t.val < 6656 := lt_of_lt_of_eq t.isLt (show cfg0.N = 6656 from N_0)

theorem word {a b : ℕ} (h : a = b) (hb : b < 6656) : (BitVec.ofNat 32 a).toNat = b := by
  subst h
  rw [BitVec.toNat_ofNat]
  exact Nat.mod_eq_of_lt (by omega)

theorem index0 (t : Fin cfg0.N) : win0_0.index t = ![0, 0] := by
  have h := lt_N t
  funext a
  fin_cases a
  · exact rfl
  · exact rfl
theorem index1 (t : Fin cfg0.N) : win0_1.index t = ![t.val / 208, t.val % 8] := by
  have h := lt_N t
  funext a
  fin_cases a
  · exact (word (coords0 t) (by omega) :)
  · exact (word (coords2 t) (by omega) :)
theorem index2 (t : Fin cfg0.N) : win0_2.index t = ![t.val % 8, t.val / 208, 0] := by
  have h := lt_N t
  funext a
  fin_cases a
  · exact (word (coords2 t) (by omega) :)
  · exact (word (coords0 t) (by omega) :)
  · exact rfl
theorem index3 (t : Fin cfg0.N) : win0_3.index t = ![t.val % 8, t.val / 8 % 26] := by
  have h := lt_N t
  funext a
  fin_cases a
  · exact (word (coords2 t) (by omega) :)
  · exact (word (coords1 t) (by omega) :)
theorem index4 (t : Fin cfg0.N) : win0_4.index t = ![t.val / 208, t.val / 8 % 26] := by
  have h := lt_N t
  funext a
  fin_cases a
  · exact (word (coords0 t) (by omega) :)
  · exact (word (coords1 t) (by omega) :)
theorem index5 (t : Fin cfg0.N) : win0_5.index t = ![t.val / 208, 0] := by
  have h := lt_N t
  funext a
  fin_cases a
  · exact (word (coords0 t) (by omega) :)
  · exact rfl

variable (m : (ℓ : Loc nD τ sig) → Buf (Elt Ideal) ℓ) (c : Dev nD) (t : Fin cfg0.N)

theorem blk0 (a : Fin 128) (b : Fin 104) : (iblk m c 0 t : S128x104.Idx → EReal) (ix2 a b) = m ((c : Thread nD τ).loc main_arg3) (ix2 a b) := by
  have e := index0 t
  blk_ext! [iblk, V, e]

theorem blk3 (a : Fin 2048) (b : Fin 512) : (iblk m c 3 t : S2048x512.Idx → EReal) (ix2 a b)
    = m ((c : Thread nD τ).loc main_arg2) (ix2 ⟨2048 * (t.val % 8) + a.val, by omega⟩ ⟨512 * (t.val / 8 % 26) + b.val, by omega⟩) := by
  have e := index3 t
  blk_ext! [iblk, V, e]

theorem blk1 (a : Fin 1024) (b : Fin 2048) : (iblk m c 1 t : S1024x2048.Idx → EReal) (ix2 a b)
    = m ((c : Thread nD τ).loc main_arg0) (ix3 ⟨(1024 * (t.val / 208) + a.val) / 4096, by have := lt_N t; omega⟩ ⟨(1024 * (t.val / 208) + a.val) % 4096, by omega⟩ ⟨2048 * (t.val % 8) + b.val, by omega⟩) := by
  have e := index1 t
  have ht := lt_N t
  blk_ext! [iblk, V, e]

theorem blk2 (a : Fin 1024) (b : Fin 16) : (iblk m c 2 t : S1x1024x16.Idx → EReal) (ix3 0 a b)
    = m ((c : Thread nD τ).loc main_arg1) (ix3 ⟨(1024 * (t.val / 208) + a.val) / 4096, by have := lt_N t; omega⟩ ⟨(1024 * (t.val / 208) + a.val) % 4096, by omega⟩ ⟨16 * (t.val % 8) + b.val, by omega⟩) := by
  have e := index2 t
  have ht := lt_N t
  blk_ext! [iblk, V, e]

end Cert.KernelIdeal.Own

end
-- ==== Proof.KI.Held.lean ====
/- The accumulator is a partial sum of the contraction at every point, and the two result blocks hold the codes and
   the scales. -/
module

public import proofs.«01_k».proof.Proof.KI.Acc
public import proofs.«01_k».proof.Proof.KI.Operands

@[expose] public section

set_option maxRecDepth 16384

noncomputable section

namespace Cert.KernelIdeal.Own

open Cert.KernelIdeal Cert.KernelIdeal.Gen
open Idealize.ShloMosaic Idealize.ShloMosaic.TcCoe

/-- A sum over a range, in groups of 128. -/
theorem sum_groups {M : Type*} [AddCommMonoid M] (f : ℕ → M) (n : ℕ) :
    ∑ g ∈ Finset.range n, ∑ k ∈ Finset.range 128, f (128 * g + k) = ∑ x ∈ Finset.range (128 * n), f x := by
  induction n with
  | zero => rfl
  | succ n ih => rw [Finset.sum_range_succ, ih, Nat.mul_succ, Finset.sum_range_add]

variable (m : (ℓ : Loc nD τ sig) → Buf (Elt Ideal) ℓ) (c : Dev nD)

/-- One product of the contraction at natural positions. -/
def tN (R C x : ℕ) : EReal :=
  if h : R < 32768 ∧ C < 13312 ∧ x < 16384 then
    Cert.Own.term (m ((c : Thread nD τ).loc main_arg0)) (m ((c : Thread nD τ).loc main_arg1)) (m ((c : Thread nD τ).loc main_arg2)) (m ((c : Thread nD τ).loc main_arg3)) ⟨R, h.1⟩ ⟨C, h.2.1⟩ ⟨x, h.2.2⟩
  else 0

theorem tm_eq (t : Fin cfg0.N) (g : Fin 16) (r : Fin 1024) (cc : Fin 512) (k : Fin 128) :
    tm (grid0.coords t) (iblk m c 0 t) (iblk m c 1 t) (iblk m c 2 t) (iblk m c 3 t) g r cc k
      = tN m c (1024 * (t.val / 208) + r.val) (512 * (t.val / 8 % 26) + cc.val) (2048 * (t.val % 8) + (128 * g.val + k.val)) := by
  have ht := lt_N t
  have c1 := coords1 t
  have c2 := coords2 t
  unfold tm tN
  rw [dif_pos ⟨by omega, by omega, by omega⟩]
  refine congrArg₂ (· * ·) (congrArg₂ (· * ·) ((blk1 m c t _ _).trans ?_) ((blk2 m c t _ _).trans ?_))
    (congrArg₂ (· * ·) ((blk3 m c t _ _).trans ?_) ((blk0 m c t _ _).trans ?_))
  · rfl
  · refine congrArg _ (congrArg (ix3 _ _) (Fin.ext ?_))
    show 16 * (t.val % 8) + g.val = (2048 * (t.val % 8) + (128 * g.val + k.val)) / 128
    omega
  · rfl
  · refine congrArg _ (congrArg₂ ix2 (Fin.ext ?_) (Fin.ext ?_))
    · show 16 * (grid0.coords t 2).val + g.val = (2048 * (t.val % 8) + (128 * g.val + k.val)) / 128
      omega
    · show 4 * (grid0.coords t 1).val + cc.val / 128 = (512 * (t.val / 8 % 26) + cc.val) / 128
      omega

/-- What a point adds to the accumulator: the next 2048 products. -/
theorem tm_sum (t : Fin cfg0.N) (r : Fin 1024) (cc : Fin 512) :
    (∑ g : Fin 16, ∑ k : Fin 128, tm (grid0.coords t) (iblk m c 0 t) (iblk m c 1 t) (iblk m c 2 t) (iblk m c 3 t) g r cc k)
      = ∑ x ∈ Finset.range 2048, tN m c (1024 * (t.val / 208) + r.val) (512 * (t.val / 8 % 26) + cc.val) (2048 * (t.val % 8) + x) := by
  rw [show (2048 : ℕ) = 128 * 16 from rfl, ← sum_groups (fun x => tN m c (1024 * (t.val / 208) + r.val) (512 * (t.val / 8 % 26) + cc.val) (128 * 16 * (t.val % 8) + x)),
    Finset.sum_range]
  refine Finset.sum_congr rfl fun g _ => ?_
  rw [Finset.sum_range]
  exact Finset.sum_congr rfl fun k _ => tm_eq m c t g r cc k

/-- THE ACCUMULATOR after each point. -/
theorem acc_eq : ∀ (n : ℕ) (hn : n < cfg0.N) (r : Fin 1024) (cc : Fin 512),
    outsAt0 m c n hn (ix2 r cc)
      = ∑ x ∈ Finset.range (2048 * (n % 8 + 1)), tN m c (1024 * (n / 208) + r.val) (512 * (n / 8 % 26) + cc.val) x := by
  intro n
  induction n with
  | zero =>
    intro hn r cc
    have e := outsAt0_A m c ⟨0, hn⟩ rfl (by show ¬(0 : ℕ) % 8 = 7; omega)
    refine (congrFun e (ix2 r cc)).trans ((soutA_apply _ _ _ _ _ _ _ _ _ _ _ _ _ _ _ _ _ _ _ _ _ _ r cc).trans ?_)
    rw [tm_sum]
    simp only [Nat.zero_mod, Nat.mul_zero, Nat.zero_add, Nat.mul_one]
  | succ n ih =>
    intro hn r cc
    have hN : n + 1 < 6656 := lt_N ⟨n + 1, hn⟩
    by_cases h0 : (n + 1) % 8 = 0
    · have e := outsAt0_A m c ⟨n + 1, hn⟩ h0 (by dsimp only; omega)
      refine (congrFun e (ix2 r cc)).trans ((soutA_apply _ _ _ _ _ _ _ _ _ _ _ _ _ _ _ _ _ _ _ _ _ _ r cc).trans ?_)
      rw [tm_sum]
      simp only [h0, Nat.mul_zero, Nat.zero_add, Nat.mul_one]
    · have hp : n < cfg0.N := by omega
      have key : accV (grid0.coords ⟨n + 1, hn⟩) (iblk m c 0 ⟨n + 1, hn⟩) (iblk m c 1 ⟨n + 1, hn⟩) (iblk m c 2 ⟨n + 1, hn⟩) (iblk m c 3 ⟨n + 1, hn⟩) (outsAt0 m c n hp) r cc
          = ∑ x ∈ Finset.range (2048 * ((n + 1) % 8 + 1)), tN m c (1024 * ((n + 1) / 208) + r.val) (512 * ((n + 1) / 8 % 26) + cc.val) x := by
        unfold accV
        rw [tm_sum, ih hp r cc, Nat.mul_succ 2048 ((n + 1) % 8), Finset.sum_range_add,
          show n % 8 + 1 = (n + 1) % 8 by omega, show n / 208 = (n + 1) / 208 by omega, show n / 8 = (n + 1) / 8 by omega]
      by_cases h1 : (n + 1) % 8 = 7
      · exact (congrFun (outsAt0_C m c ⟨n + 1, hn⟩ h0 h1) (ix2 r cc)).trans ((soutC_apply _ _ _ _ _ _ _ _ _ _ _ _ _ _ _ _ _ _ _ _ _ _ _ r cc).trans key)
      · exact (congrFun (outsAt0_B m c ⟨n + 1, hn⟩ h0 h1) (ix2 r cc)).trans ((soutB_apply _ _ _ _ _ _ _ _ _ _ _ _ _ _ _ _ _ _ _ _ _ _ _ r cc).trans key)

/-- The whole sum is the product. -/
theorem full_eq (R : Fin 32768) (C : Fin 13312) :
    ∑ x ∈ Finset.range 16384, tN m c R.val C.val x = Cert.Own.prod (m ((c : Thread nD τ).loc main_arg0)) (m ((c : Thread nD τ).loc main_arg1)) (m ((c : Thread nD τ).loc main_arg2)) (m ((c : Thread nD τ).loc main_arg3)) R C := by
  rw [Finset.sum_range]
  refine Finset.sum_congr rfl fun x _ => ?_
  unfold tN
  rw [dif_pos ⟨R.isLt, C.isLt, x.isLt⟩]

/-- The accumulator that the last point of a run reads back. -/
theorem last_eq (t : Fin cfg0.N) (h0 : ¬t.val % 8 = 0) (h1 : t.val % 8 = 7) (r : Fin 1024) (cc : Fin 512) (R : Fin 32768) (C : Fin 13312)
    (hR : R.val = 1024 * (t.val / 208) + r.val) (hC : C.val = 512 * (t.val / 8 % 26) + cc.val) :
    accV (grid0.coords t) (iblk m c 0 t) (iblk m c 1 t) (iblk m c 2 t) (iblk m c 3 t) (outsAt0 m c (t.val - 1) (Nat.lt_of_le_of_lt (Nat.sub_le _ _) t.isLt)) r cc = Cert.Own.prod (m ((c : Thread nD τ).loc main_arg0)) (m ((c : Thread nD τ).loc main_arg1)) (m ((c : Thread nD τ).loc main_arg2)) (m ((c : Thread nD τ).loc main_arg3)) R C := by
  rw [← full_eq, hR, hC]
  have e := acc_eq m c t.val t.isLt r cc
  rw [outsAt0_C m c t h0 h1, soutC_apply, h1] at e
  exact e

/-- The tiles of that accumulator. -/
theorem hid_eq (t : Fin cfg0.N) (h0 : ¬t.val % 8 = 0) (h1 : t.val % 8 = 7) (r : Fin 1024) (j : Fin 2) (R : Fin 32768) (q : Fin 52)
    (hR : R.val = 1024 * (t.val / 208) + r.val) (hq : q.val = 2 * (t.val / 8 % 26) + j.val) :
    hidV (accV (grid0.coords t) (iblk m c 0 t) (iblk m c 1 t) (iblk m c 2 t) (iblk m c 3 t) (outsAt0 m c (t.val - 1) (Nat.lt_of_le_of_lt (Nat.sub_le _ _) t.isLt))) r j
      = Cert.Own.hid (m ((c : Thread nD τ).loc main_arg0)) (m ((c : Thread nD τ).loc main_arg1)) (m ((c : Thread nD τ).loc main_arg2)) (m ((c : Thread nD τ).loc main_arg3)) R q := by
  funext l
  unfold hidV Cert.Own.hid
  refine congrArg₂ Cert.Own.swi (last_eq m c t h0 h1 r _ R _ hR ?_) (last_eq m c t h0 h1 r _ R _ hR ?_)
  · show 256 * q.val + l.val = 512 * (t.val / 8 % 26) + (256 * j.val + l.val)
    omega
  · show 256 * q.val + 128 + l.val = 512 * (t.val / 8 % 26) + (256 * j.val + 128 + l.val)
    omega

/-- What the two result blocks hold after point `t`: the codes once a run of the accumulator has ended, and the
    scales of the runs that have ended. -/
def held : Held Ideal where
  r4 t X := t % 8 = 7 → ∀ (r : Fin 1024) (l : Fin 256) (R : Fin 32768) (C : Fin 6656), R.val = 1024 * (t / 208) + r.val →
    C.val = 256 * (t / 8 % 26) + l.val → X (ix2 r l) = Cert.Own.code (m ((c : Thread nD τ).loc main_arg0)) (m ((c : Thread nD τ).loc main_arg1)) (m ((c : Thread nD τ).loc main_arg2)) (m ((c : Thread nD τ).loc main_arg3)) R C
  r5 t X := ∀ (r : Fin 1024) (q : Fin 52) (R : Fin 32768), R.val = 1024 * (t / 208) + r.val →
    q.val < 2 * ((t % 208 + 1) / 8) → X (ix2 r q) = Cert.Own.scale (m ((c : Thread nD τ).loc main_arg0)) (m ((c : Thread nD τ).loc main_arg1)) (m ((c : Thread nD τ).loc main_arg2)) (m ((c : Thread nD τ).loc main_arg3)) R q

theorem kept : Kept m (held m) where
  idle4 c t h X := fun h' => absurd h' h
  idle5 c t h X hX := by
    intro r q R hR hq
    have ht := lt_N t
    by_cases hz : t.val % 208 = 0
    · rw [hz] at hq; omega
    · exact hX hz r q R (by rw [hR]; congr 2; omega) (by omega)
  store4 c t h0 h1 := by
    intro _ r l R C hR hC
    have ht := lt_N t
    have hj : l.val / 128 < 2 := by omega
    have hl : l = ⟨128 * (⟨l.val / 128, hj⟩ : Fin 2).val + (⟨l.val % 128, by omega⟩ : Fin 128).val, by have : (⟨l.val / 128, hj⟩ : Fin 2).val = l.val / 128 := rfl; have : (⟨l.val % 128, by omega⟩ : Fin 128).val = l.val % 128 := rfl; omega⟩ :=
      Fin.ext (by show l.val = 128 * (l.val / 128) + l.val % 128; omega)
    rw [hl]
    refine (out4_apply _ _ _ _ _ _ _ _ _ _ _ _ _ _ _ _ _ _ _ _ _ _ _ r ⟨l.val / 128, hj⟩ ⟨l.val % 128, by omega⟩).trans ?_
    rw [hid_eq m c t h0 h1 r ⟨l.val / 128, hj⟩ R ⟨C.val / 128, by omega⟩ hR (by show C.val / 128 = 2 * (t.val / 8 % 26) + l.val / 128; omega)]
    unfold Cert.Own.code
    have e : (⟨l.val % 128, by omega⟩ : Fin 128) = ⟨C.val % 128, by omega⟩ := Fin.ext (by show l.val % 128 = C.val % 128; omega)
    rw [e]
  store5 c t h0 h1 x5 hX := by
    intro r q R hR hq
    have ht := lt_N t
    refine (out5_apply _ _ _ _ _ _ _ _ _ _ _ _ _ _ _ _ _ _ _ _ _ _ _ x5 r q).trans ?_
    have c1 := coords1 t
    rw [c1]
    split_ifs with ha hb
    · rw [hid_eq m c t h0 h1 r 1 R q hR ha]; rfl
    · rw [hid_eq m c t h0 h1 r 0 R q hR hb]; rfl
    · exact hX r q R (by rw [hR]; congr 2; omega) (by omega)

end Cert.KernelIdeal.Own

end
-- ==== Proof.KI.Value.lean ====
/- The two result arrays of the launch at its end, and the idealized kernel's run. -/
module

public import proofs.«01_k».proof.Proof.KI.Held
public import Idealize.ShloMosaic.Lib.Pipeline.ArrRel
public import Idealize.ShloMosaic.Lib.Pipeline.Covers

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline

/-- Every block of the codes is some point's. -/
theorem covers4 : (cfg0.win 4).Covers :=
  Window.covers_of_index_surj (w := win0_4) rfl (by decide) fun β => by
    have h0 : (β 0).val < 32 := (β 0).isLt
    have h1 : (β 1).val < 26 := (β 1).isLt
    refine ⟨⟨208 * (β 0).val + 8 * (β 1).val, by rw [show grid0.N = 6656 from N_0]; omega⟩, fun a => ?_⟩
    rw [index4]
    fin_cases a
    · show (208 * (β 0).val + 8 * (β 1).val) / 208 = (β 0).val
      omega
    · show (208 * (β 0).val + 8 * (β 1).val) / 8 % 26 = (β 1).val
      omega

/-- Every block of the scales is some point's. -/
theorem covers5 : (cfg0.win 5).Covers :=
  Window.covers_of_index_surj (w := win0_5) rfl (by decide) fun β => by
    have h0 : (β 0).val < 32 := (β 0).isLt
    have h1 : (β 1).val < 1 := (β 1).isLt
    refine ⟨⟨208 * (β 0).val, by rw [show grid0.N = 6656 from N_0]; omega⟩, fun a => ?_⟩
    rw [index5]
    fin_cases a
    · show (208 * (β 0).val) / 208 = (β 0).val
      omega
    · show 0 = (β 1).val
      omega

variable (m : (ℓ : Loc nD τ sig) → Buf (Elt Ideal) ℓ) (ρ : Dev nD → PrngReg)

/-- The codes' array. -/
def codes (c : Dev nD) : S32768x6656.Idx → EReal := fun i => Cert.Own.code (m ((c : Thread nD τ).loc main_arg0)) (m ((c : Thread nD τ).loc main_arg1)) (m ((c : Thread nD τ).loc main_arg2)) (m ((c : Thread nD τ).loc main_arg3)) (i 0) (i 1)
/-- The scales' array. -/
def scales (c : Dev nD) : S32768x52.Idx → EReal := fun i => Cert.Own.scale (m ((c : Thread nD τ).loc main_arg0)) (m ((c : Thread nD τ).loc main_arg1)) (m ((c : Thread nD τ).loc main_arg2)) (m ((c : Thread nD τ).loc main_arg3)) (i 0) (i 1)

theorem arr4 (c : Dev nD) (d : Dat τ (Elt Ideal) Unit ℕ (UR sig nD τ) ℕ cfg0 c)
    (h : ∀ t : Fin cfg0.N, (cfg0.win 4).flush t = true → (held m c).r4 t.val (d.after 4 t)) :
    d.arrAt 4 cfg0.N = codes m c := by
  refine Dat.arrAt_eq_of_covers d 4 (codes m c) covers4 fun t hf y => ?_
  have h1 : t.val % 8 = 7 := (flush0_4 t).mp hf
  have e := index4 t
  have ht := lt_N t
  have hd := h t hf h1
  generalize d.after 4 t = X at hd ⊢
  have e0 : ((win0_4.blk t).view.emb y 0).val = 1024 * (t.val / 208) + (y 0).val := by
    blk_simp [e]
    omega
  have e1 : ((win0_4.blk t).view.emb y 1).val = 256 * (t.val / 8 % 26) + (y 1).val := by
    blk_simp [e]
    omega
  have y0 : (y 0).val < 1024 := by exact (y 0).isLt
  have y1 : (y 1).val < 256 := (y 1).isLt
  blk_simp [codes]
  have hy : y = (ix2 ⟨(y 0).val, y0⟩ ⟨(y 1).val, y1⟩ : S1024x256.Idx) := by
    funext a
    fin_cases a <;> rfl
  exact (congrArg X hy).trans (hd ⟨(y 0).val, y0⟩ ⟨(y 1).val, y1⟩ _ _ e0 e1)

theorem arr5 (c : Dev nD) (d : Dat τ (Elt Ideal) Unit ℕ (UR sig nD τ) ℕ cfg0 c)
    (h : ∀ t : Fin cfg0.N, (cfg0.win 5).flush t = true → (held m c).r5 t.val (d.after 5 t)) :
    d.arrAt 5 cfg0.N = scales m c := by
  refine Dat.arrAt_eq_of_covers d 5 (scales m c) covers5 fun t hf y => ?_
  have h1 : t.val % 208 = 207 := (flush0_5 t).mp hf
  have e := index5 t
  have ht := lt_N t
  have hd := h t hf
  generalize d.after 5 t = X at hd ⊢
  have e0 : ((win0_5.blk t).view.emb y 0).val = 1024 * (t.val / 208) + (y 0).val := by
    blk_simp [e]
    omega
  have e1 : ((win0_5.blk t).view.emb y 1).val = (y 1).val := by
    blk_simp [e]
  have y0 : (y 0).val < 1024 := (y 0).isLt
  have y1 : (y 1).val < 52 := (y 1).isLt
  blk_simp [scales]
  have hy : y = (ix2 ⟨(y 0).val, y0⟩ ⟨(y 1).val, y1⟩ : S1024x52.Idx) := by
    funext a
    fin_cases a <;> rfl
  have eq : (win0_5.blk t).view.emb y 1 = (⟨(y 1).val, y1⟩ : Fin 52) := Fin.ext e1
  exact (congrArg X hy).trans ((hd ⟨(y 0).val, y0⟩ ⟨(y 1).val, y1⟩ _ e0 (by show (y 1).val < _; omega)).trans
    (congrArg _ eq.symm))

/-- THE RUN, with the values of its two results. -/
theorem run_value : θ_run defs (onTc (τ := τ) (main (F := Ideal))) ⟨m, fun _ => 0, ρ⟩ fun r => ∀ c : Dev nD,
      r.2.mem ((c : Thread nD τ).loc main_v3_0) = codes m c ∧
      r.2.mem ((c : Thread nD τ).loc main_v3_1) = scales m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) :=
  (θ_run defs _ _).mono (fun r hr c => by
    have h := hr.1
    obtain ⟨after, hL, hA⟩ := RDat.FramePost.exists_exact h c
    refine ⟨(hA 4).trans (arr4 m c _ fun t hf => ?_), (hA 5).trans (arr5 m c _ fun t hf => ?_),
      (h c).2 main_arg0 (mem_restRefs_of main_arg0 (by decide) (by decide)) |>.trans (V_main_arg0 m c),
      (h c).2 main_arg1 (mem_restRefs_of main_arg1 (by decide) (by decide)) |>.trans (V_main_arg1 m c),
      (RDat.FramePost.arr_in h c 3 rfl).trans ((A_eq m c 3).trans (V_main_arg2 m c)),
      (RDat.FramePost.arr_in h c 0 rfl).trans ((A_eq m c 0).trans (V_main_arg3 m c))⟩
    · exact (dats m 0 c).toRRel_leaves (w := 4) rfl (hL 4 t hf)
    · exact (dats m 0 c).toRRel_leaves (w := 5) rfl (hL 5 t hf)) (run_main_quiescent m ρ (held m) (kept m))

end Cert.KernelIdeal.Own

end
-- ==== Proof.RI.Run.lean ====
/- The run of the reference, read: each result array is one function (`G4`, `G5`) of the argument arrays.
   The generator's own module of this name, without its closed forms of the pieces. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S32768x6656.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S32768x52.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x4096x16384.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 4096 + 1 * (j 1).val = (j 1).val; omega
  | ⟨2, _⟩ => show win0_0.index t (2 : Fin 3) * 16384 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x4096x128.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 4096 + 1 * (j 1).val = (j 1).val; omega
  | ⟨2, _⟩ => show win0_1.index t (2 : Fin 3) * 128 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S16384x13312.Idx) : ((cfg0.win 2).blk t).view.emb j = j := by
  obtain ⟨e0, e1⟩ := idx_zero2 t
  funext a; apply Fin.ext
  match a with
  | ⟨0, _⟩ => show win0_2.index t (0 : Fin 2) * 16384 + 1 * (j 0).val = (j 0).val; omega
  | ⟨1, _⟩ => show win0_2.index t (1 : Fin 2) * 13312 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S128x104.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 104 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S32768x6656.Idx) : ((cfg0.win 4).blk t).view.emb j = j := by
  obtain ⟨e0, e1⟩ := idx_zero4 t
  funext a; apply Fin.ext
  match a with
  | ⟨0, _⟩ => show win0_4.index t (0 : Fin 2) * 32768 + 1 * (j 0).val = (j 0).val; omega
  | ⟨1, _⟩ => show win0_4.index t (1 : Fin 2) * 6656 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S32768x52.Idx) : ((cfg0.win 5).blk t).view.emb j = j := by
  obtain ⟨e0, e1⟩ := idx_zero5 t
  funext a; apply Fin.ext
  match a with
  | ⟨0, _⟩ => show win0_5.index t (0 : Fin 2) * 32768 + 1 * (j 0).val = (j 0).val; omega
  | ⟨1, _⟩ => show win0_5.index t (1 : Fin 2) * 52 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S8x4096x16384 .fp8e4m3) (a1 : Vec F S8x4096x128 .f32) (a2 : Vec F S16384x13312 .fp8e4m3) (a3 : Vec F S128x104 .f32) : Vec F S32768x6656 .fp8e4m3 :=
  k0_pay2 (k0_pay4 a0 a1 a2 a3) (k0_pay9 a0 a1 a2 a3) (k0_pay10 a0 a1 a2 a3) (k0_pay11 a0 a1 a2 a3)

/-- A load of the whole of a block reads the block, and the one store through the whole rectangle leaves its payload. -/
theorem out4_eq (a0 : Vec F S8x4096x16384 .fp8e4m3) (a1 : Vec F S8x4096x128 .f32) (a2 : Vec F S16384x13312 .fp8e4m3) (a3 : Vec F S128x104 .f32) : out0_4 (F := F) a0 a1 a2 a3 = G4 a0 a1 a2 a3 := by
  unfold out0_4
  rw [View.canon_unit_zero hz4, View.ld_unit_zero (S := S8x4096x16384) hz0 _ a0, View.ld_unit_zero (S := S8x4096x128) hz1 _ a1, View.ld_unit_zero (S := S16384x13312) hz2 _ a2, View.ld_unit_zero (S := S128x104) hz3 _ a3]

/-- Cutting the point's block out of `X` and reading `X` through the block's view give the same. -/
theorem cut4_eq (t : Fin cfg0.N) (X : Vec F S32768x6656 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S32768x6656.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S8x4096x16384 .fp8e4m3) (a1 : Vec F S8x4096x128 .f32) (a2 : Vec F S16384x13312 .fp8e4m3) (a3 : Vec F S128x104 .f32) : Vec F S32768x52 .f32 :=
  k0_pay3 (k0_pay9 a0 a1 a2 a3) (k0_pay10 a0 a1 a2 a3) (k0_pay11 a0 a1 a2 a3)

/-- The one store through the whole rectangle leaves its payload. -/
theorem out5_eq (a0 : Vec F S8x4096x16384 .fp8e4m3) (a1 : Vec F S8x4096x128 .f32) (a2 : Vec F S16384x13312 .fp8e4m3) (a3 : Vec F S128x104 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S32768x52 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S32768x52.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      kept_main_arg0 m r h c,
      kept_main_arg1 m r h c,
      kept_main_arg2 m r h c,
      kept_main_arg3 m r h c⟩)
    (run_main m ρ)

end Cert.ReferenceIdeal.Run

end
-- ==== Proof.RI.Value.lean ====
/- The reference's two results, read at an index. -/
module

public import proofs.«01_k».proof.Proof.Own.Spec
public import proofs.«01_k».proof.Proof.RI.Run

@[expose] public section

set_option maxRecDepth 16384

noncomputable section

namespace Cert.ReferenceIdeal.Own

open Cert.ReferenceIdeal Cert.ReferenceIdeal.Gen Cert.ReferenceIdeal.Run
open Idealize.ShloMosaic

variable (a0 : Vec Ideal S8x4096x16384 .fp8e4m3) (a1 : Vec Ideal S8x4096x128 .f32) (a2 : Vec Ideal S16384x13312 .fp8e4m3) (a3 : Vec Ideal S128x104 .f32)

/-- The dequantised activations. -/
def xd : FVec Ideal S32768x16384 .bf16 :=
  shapeCast S32768x16384 (mulf (shapeCast S32768x128x128 (extf .bf16 a0 bitsLt_fp8e4m3_bf16) shapeCasts_S8x4096x16384_S32768x128x128)
    (broadcastTo S32768x128x128 (shapeCast S32768x128x1 (truncf .bf16 a1 bitsLt_bf16_f32) shapeCasts_S8x4096x128_S32768x128x1) broadcasts_S32768x128x1_S32768x128x128)) shapeCasts_S32768x128x128_S32768x16384
/-- The dequantised weights. -/
def wd : FVec Ideal S16384x13312 .bf16 :=
  shapeCast S16384x13312 (mulf (shapeCast S128x128x104x128 (extf .bf16 a2 bitsLt_fp8e4m3_bf16) shapeCasts_S16384x13312_S128x128x104x128)
    (broadcastTo S128x128x104x128 (shapeCast S128x1x104x1 (truncf .bf16 a3 bitsLt_bf16_f32) shapeCasts_S128x104_S128x1x104x1) broadcasts_S128x1x104x1_S128x128x104x128)) shapeCasts_S128x128x104x128_S16384x13312
/-- Their product. -/
def pd : FVec Ideal S32768x13312 .f32 :=
  matmul dot_S32768x16384_S16384x13312_S32768x13312_1_0_0_1_n_n none (xd a0 a1) (wd a2 a3) (constant S32768x13312 .f32 0x00000000#32)
/-- The gate and up halves of the product's column tiles. -/
def halves (p : FVec Ideal S32768x13312 .f32) : FVec Ideal S32768x52x2x128 .f32 := shapeCast S32768x52x2x128 p shapeCasts_S32768x13312_S32768x52x2x128

/-- The SwiGLU tile. -/
def gated (h : FVec Ideal S32768x52x2x128 .f32) : FVec Ideal S32768x52x128 .f32 :=
  mulf (mulf (shapeCast S32768x52x128 (extractStridedSlice S32768x52x1x128 ![0, 0, 0, 0] h slices_S32768x52x2x128_o0_0_0_0_S32768x52x1x128) shapeCasts_S32768x52x1x128_S32768x52x128)
    (logistic (shapeCast S32768x52x128 (extractStridedSlice S32768x52x1x128 ![0, 0, 0, 0] h slices_S32768x52x2x128_o0_0_0_0_S32768x52x1x128) shapeCasts_S32768x52x1x128_S32768x52x128)))
    (shapeCast S32768x52x128 (extractStridedSlice S32768x52x1x128 ![0, 0, 1, 0] h slices_S32768x52x2x128_o0_0_1_0_S32768x52x1x128) shapeCasts_S32768x52x1x128_S32768x52x128)

theorem xd_apply (r : Fin 32768) (k : Fin 16384) : xd a0 a1 (ix2 r k)
    = a0 (ix3 ⟨r.val / 4096, by omega⟩ ⟨r.val % 4096, by omega⟩ k) * a1 (ix3 ⟨r.val / 4096, by omega⟩ ⟨r.val % 4096, by omega⟩ ⟨k.val / 128, by omega⟩) := by
  pointwise [xd]

theorem wd_apply (k : Fin 16384) (c : Fin 13312) : wd a2 a3 (ix2 k c)
    = a2 (ix2 k c) * a3 (ix2 ⟨k.val / 128, by omega⟩ ⟨c.val / 128, by omega⟩) := by
  pointwise [wd]

theorem pd_apply (r : Fin 32768) (c : Fin 13312) : pd a0 a1 a2 a3 (ix2 r c)
    = ∑ k : Fin 16384, xd a0 a1 (ix2 r k) * wd a2 a3 (ix2 k c) := by
  unfold pd
  generalize xd a0 a1 = x
  generalize wd a2 a3 = w
  pointwise []

theorem gated_apply (p : FVec Ideal S32768x13312 .f32) (r : Fin 32768) (q : Fin 52) (l : Fin 128) : gated (halves p) (ix3 r q l)
    = Cert.Own.swi (p (ix2 r ⟨256 * q.val + l.val, by omega⟩)) (p (ix2 r ⟨256 * q.val + 128 + l.val, by omega⟩)) := by
  pointwise [gated, halves]
  simp only [Cert.Own.swi, Nat.mul_comm 256]
theorem hid_eq : k0_pay4 a0 a1 a2 a3 = gated (halves (pd a0 a1 a2 a3)) := rfl

theorem rowmax_apply (h : FVec Ideal S32768x52x128 .f32) (r : Fin 32768) (q : Fin 52) :
    multiReduction .maximumf [2] S32768x52 (absf h) 0xFF800000#32 reduces_S32768x52x128_S32768x52 (.inl rfl) rfl (ix2 r q)
      = Finset.univ.fold max (Ideal.ofBits .f32 0xFF800000#32) (fun l : Fin 128 => max (h (ix3 r q l)) (-h (ix3 r q l))) := by
  refine (multiReduction_maximumf_eq_fold (F := Ideal) (φ := .f32) (absf h) 0xFF800000#32 reduces_S32768x52x128_S32768x52 (.inl rfl) rfl (ix2 r q)).trans ?_
  refine (Shape.Reduces.fold_fiber_r3_a2 _ _ _ _ _).trans ?_
  rfl

theorem scaled_apply (v : FVec Ideal S32768x52 .f32) (r : Fin 32768) (q : Fin 52) :
    mulf (shapeCast S32768x52x1 v shapeCasts_S32768x52_S32768x52x1) (broadcast S32768x52x1 (Scalar.ofBits .f32 0x3B124925#32 : Ideal .f32)) (ix3 r q 0)
      = v (ix2 r q) * Ideal.ofBits .f32 0x3B124925#32 := by
  pointwise []

theorem xwd_eq (r : Fin 32768) (c : Fin 13312) (k : Fin 16384) :
    xd a0 a1 (ix2 r k) * wd a2 a3 (ix2 k c) = Cert.Own.term a0 a1 a2 a3 r c k := by
  rw [xd_apply, wd_apply]; rfl

theorem prod_eq (r : Fin 32768) (c : Fin 13312) : pd a0 a1 a2 a3 (ix2 r c) = Cert.Own.prod a0 a1 a2 a3 r c :=
  (pd_apply a0 a1 a2 a3 r c).trans (Finset.sum_congr rfl fun k _ => xwd_eq a0 a1 a2 a3 r c k)

theorem hid_apply (r : Fin 32768) (q : Fin 52) (l : Fin 128) :
    k0_pay4 a0 a1 a2 a3 (ix3 r q l) = Cert.Own.hid a0 a1 a2 a3 r q l := by
  rw [hid_eq, gated_apply, prod_eq, prod_eq]; rfl

theorem pay5_apply (r : Fin 32768) (q : Fin 52) :
    k0_pay5 a0 a1 a2 a3 (ix3 r q 0) = Cert.Own.amax (Cert.Own.hid a0 a1 a2 a3 r q) := by
  refine (scaled_apply (multiReduction .maximumf [2] S32768x52 (absf (k0_pay4 a0 a1 a2 a3)) 0xFF800000#32 reduces_S32768x52x128_S32768x52 (.inl rfl) rfl) r q).trans ?_
  rw [rowmax_apply]
  simp only [hid_apply, Cert.Own.amax]

theorem expo0_apply (y : FVec Ideal S32768x52x1 .f32) (i : S32768x52x1.Idx) :
    addf (floor (divf (log y) (log (broadcast S32768x52x1 (Scalar.ofBits .f32 0x40000000#32 : Ideal .f32))))) (broadcast S32768x52x1 (Scalar.ofBits .f32 0x3F800000#32 : Ideal .f32)) i
      = Cert.Own.expo0 (y i) := rfl

theorem flag_apply (y : FVec Ideal S32768x52x1 .f32) (p : CmpFPredicate) (b : BitVec 32) (i : S32768x52x1.Idx) :
    cmpf p y (broadcast S32768x52x1 (Scalar.ofBits .f32 b : Ideal .f32)) i = Ideal.cmp p (y i) (Ideal.ofBits .f32 b) := rfl

theorem mended_apply (y : FVec Ideal S32768x52x1 .f32) (v40 v42 : IVec S32768x52x1 1) (i : S32768x52x1.Idx) :
    k0_pay1 y v40 v42 i = Scalar.select (IntOp.ori (v40 i) (v42 i)) (Ideal.ofBits .f32 0x00000000#32) (y i) := rfl

theorem pay6_apply (i : S32768x52x1.Idx) : k0_pay6 a0 a1 a2 a3 i = Cert.Own.expo0 (k0_pay5 a0 a1 a2 a3 i) := expo0_apply (k0_pay5 a0 a1 a2 a3) i

theorem pay7_apply (i : S32768x52x1.Idx) : k0_pay7 a0 a1 a2 a3 i = Ideal.cmp .olt (k0_pay5 a0 a1 a2 a3 i) (Ideal.ofBits .f32 0x00800000#32) := flag_apply (k0_pay5 a0 a1 a2 a3) _ _ i

theorem pay8_apply (i : S32768x52x1.Idx) : k0_pay8 a0 a1 a2 a3 i = Ideal.cmp .oeq (k0_pay5 a0 a1 a2 a3 i) (Ideal.ofBits .f32 0x7F800000#32) := flag_apply (k0_pay5 a0 a1 a2 a3) _ _ i

theorem pay1_apply (r : Fin 32768) (q : Fin 52) :
    k0_pay1 (k0_pay6 a0 a1 a2 a3) (k0_pay7 a0 a1 a2 a3) (k0_pay8 a0 a1 a2 a3) (ix3 r q 0)
      = Cert.Own.expo (Cert.Own.amax (Cert.Own.hid a0 a1 a2 a3 r q)) := by
  rw [mended_apply, pay6_apply, pay7_apply, pay8_apply, pay5_apply, Cert.Own.expo]

theorem cast3_apply (v : FVec Ideal S32768x52x1 .f32) (r : Fin 32768) (q : Fin 52) :
    shapeCast S32768x52 v shapeCasts_S32768x52x1_S32768x52 (ix2 r q) = v (ix3 r q 0) := by
  pointwise []

theorem cast2_apply (v : FVec Ideal S32768x52x128 .fp8e4m3) (r : Fin 32768) (c : Fin 6656) :
    shapeCast S32768x6656 v shapeCasts_S32768x52x128_S32768x6656 (ix2 r c) = v (ix3 r ⟨c.val / 128, by omega⟩ ⟨c.val % 128, by omega⟩) := by
  pointwise []

theorem lanes_apply (v : FVec Ideal S32768x52x1 .f32) (r : Fin 32768) (q : Fin 52) (l : Fin 128) :
    broadcastTo S32768x52x128 v broadcasts_S32768x52x1_S32768x52x128 (ix3 r q l) = v (ix3 r q 0) := by
  pointwise []

theorem pay3_apply (v38 : FVec Ideal S32768x52x1 .f32) (v40 v42 : IVec S32768x52x1 1) (r : Fin 32768) (q : Fin 52) :
    k0_pay3 v38 v40 v42 (ix2 r q) = Cert.Own.ldexp1 (k0_pay1 v38 v40 v42 (ix3 r q 0)) :=
  cast3_apply (fun i => Cert.Own.ldexp1 (k0_pay1 v38 v40 v42 i)) r q

/-- The inverse scale of the reference, as a vector. -/
def invs (e : FVec Ideal S32768x52x1 .f32) : FVec Ideal S32768x52x1 .f32 := fun i => Cert.Own.ldexp1 (Ideal.ofBits .f32 0x00000000#32 - e i)

theorem pay2_apply (h : FVec Ideal S32768x52x128 .f32) (v38 : FVec Ideal S32768x52x1 .f32) (v40 v42 : IVec S32768x52x1 1) (r : Fin 32768) (c : Fin 6656) :
    k0_pay2 h v38 v40 v42 (ix2 r c) = Cert.Own.clip (h (ix3 r ⟨c.val / 128, by omega⟩ ⟨c.val % 128, by omega⟩)
      * Cert.Own.ldexp1 (Ideal.ofBits .f32 0x00000000#32 - k0_pay1 v38 v40 v42 (ix3 r ⟨c.val / 128, by omega⟩ 0))) := by
  refine (cast2_apply (fun i => Cert.Own.clip (h i * broadcastTo S32768x52x128 (invs (k0_pay1 v38 v40 v42)) broadcasts_S32768x52x1_S32768x52x128 i)) r c).trans ?_
  rw [lanes_apply]
  rfl

theorem pay9_eq : k0_pay9 a0 a1 a2 a3 = k0_pay6 a0 a1 a2 a3 := by
  unfold k0_pay9
  rw [View.ld_unit_zero (S := S8x4096x16384) hz0 _ a0, View.ld_unit_zero (S := S8x4096x128) hz1 _ a1, View.ld_unit_zero (S := S16384x13312) hz2 _ a2, View.ld_unit_zero (S := S128x104) hz3 _ a3]

theorem pay10_eq : k0_pay10 a0 a1 a2 a3 = k0_pay7 a0 a1 a2 a3 := by
  unfold k0_pay10
  rw [View.ld_unit_zero (S := S8x4096x16384) hz0 _ a0, View.ld_unit_zero (S := S8x4096x128) hz1 _ a1, View.ld_unit_zero (S := S16384x13312) hz2 _ a2, View.ld_unit_zero (S := S128x104) hz3 _ a3]

theorem pay11_eq : k0_pay11 a0 a1 a2 a3 = k0_pay8 a0 a1 a2 a3 := by
  unfold k0_pay11
  rw [View.ld_unit_zero (S := S8x4096x16384) hz0 _ a0, View.ld_unit_zero (S := S8x4096x128) hz1 _ a1, View.ld_unit_zero (S := S16384x13312) hz2 _ a2, View.ld_unit_zero (S := S128x104) hz3 _ a3]

theorem G4_apply (r : Fin 32768) (c : Fin 6656) : G4 a0 a1 a2 a3 (ix2 r c) = Cert.Own.code a0 a1 a2 a3 r c := by
  unfold G4
  rw [pay9_eq, pay10_eq, pay11_eq, pay2_apply, pay1_apply, hid_apply]
  rfl

theorem G5_apply (r : Fin 32768) (q : Fin 52) : G5 a0 a1 a2 a3 (ix2 r q) = Cert.Own.scale a0 a1 a2 a3 r q := by
  unfold G5
  rw [pay9_eq, pay10_eq, pay11_eq, pay3_apply, pay1_apply]
  rfl

end Cert.ReferenceIdeal.Own

end
-- ==== Proof.lean ====
module

public import proofs.«01_k».proof.Defs
public import proofs.«01_k».proof.Proof.K.Same
public import proofs.«01_k».proof.Proof.KI.Bare
public import proofs.«01_k».proof.Proof.Gen.ReferenceIdeal.Frame
public import proofs.«01_k».proof.Proof.KI.Value
public import proofs.«01_k».proof.Proof.RI.Value

@[expose] public section

set_option maxRecDepth 16384

noncomputable section

namespace Cert.Proof

open Idealize.ShloMosaic Idealize.ShloMosaic.TcCoe Idealize.SL.Sem

/-- The reference's codes, at every index. -/
theorem ref_codes (a0 : Vec Ideal Cert.ReferenceIdeal.S8x4096x16384 .fp8e4m3) (a1 : Vec Ideal Cert.ReferenceIdeal.S8x4096x128 .f32)
    (a2 : Vec Ideal Cert.ReferenceIdeal.S16384x13312 .fp8e4m3) (a3 : Vec Ideal Cert.ReferenceIdeal.S128x104 .f32) :
    Cert.ReferenceIdeal.Run.G4 (F := Ideal) a0 a1 a2 a3
      = fun i : Cert.KernelIdeal.S32768x6656.Idx => Cert.Own.code a0 a1 a2 a3 (i 0) (i 1) := by
  funext i
  refine Eq.trans ?_ (Cert.ReferenceIdeal.Own.G4_apply a0 a1 a2 a3 (i 0) (i 1))
  exact congrArg _ (ix2_eta i).symm

theorem ref_scales (a0 : Vec Ideal Cert.ReferenceIdeal.S8x4096x16384 .fp8e4m3) (a1 : Vec Ideal Cert.ReferenceIdeal.S8x4096x128 .f32)
    (a2 : Vec Ideal Cert.ReferenceIdeal.S16384x13312 .fp8e4m3) (a3 : Vec Ideal Cert.ReferenceIdeal.S128x104 .f32) :
    Cert.ReferenceIdeal.Run.G5 (F := Ideal) a0 a1 a2 a3
      = fun i : Cert.KernelIdeal.S32768x52.Idx => Cert.Own.scale a0 a1 a2 a3 (i 0) (i 1) := by
  funext i
  refine Eq.trans ?_ (Cert.ReferenceIdeal.Own.G5_apply a0 a1 a2 a3 (i 0) (i 1))
  exact congrArg _ (ix2_eta i).symm

theorem algebraic : Cert.algebraic_KernelIdeal_ReferenceIdeal := by
  intro m g m' g' _ hagree
  refine ⟨Cert.KernelIdeal.Own.codes m, Cert.KernelIdeal.Own.scales m, Cert.KernelIdeal.Own.run_value m g,
    (θ_run _ _ _).mono (fun r h c => ?_) (Cert.ReferenceIdeal.Run.run m' g')⟩
  obtain ⟨h4, h5, hr⟩ := h c
  obtain ⟨e0, e1, e2, e3⟩ := hagree c
  refine ⟨h4.trans ?_, h5.trans ?_, hr⟩
  · rw [e0, e1, e2, e3]
    exact ref_codes _ _ _ _
  · rw [e0, e1, e2, e3]
    exact ref_scales _ _ _ _

theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ,
  fun m ρ _ => Cert.ReferenceIdeal.Gen.frame m ρ, trivial, algebraic⟩

end Cert.Proof

end
